-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_nm1" .f32 0x39000400#32 ((8191⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x128x2048 : Shape := ⟨3, ![64, 128, 2048]⟩
abbrev S2048 : Shape := ⟨1, ![2048]⟩
abbrev S_ : Shape := ⟨0, ![]⟩

class Facts : Prop where
  bcast_S_S64x128x2048 : S_.BroadcastsInDim S64x128x2048 (![] : Fin 0 → Fin S64x128x2048.rank)
  reducesTo_S64x128x2048_S_d0_1_2 : S64x128x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S64x128x2048 .f32) (main_arg1 : FVec F S64x128x2048 .f32) (main_arg2 : FVec F S2048 .f32) (main_arg3 : FVec F S2048 .f32) (main_arg4 : FVec F S2048 .f32) (main_arg5 : FVec F S2048 .f32) : IVec S_ 1 :=
  let main_v0 : FVec F S64x128x2048 .f32 := Host.absf main_arg0
  let main_cst : FVec F S_ .f32 := constant S_ .f32 0x7F800000#32
  let main_v1 : FVec F S64x128x2048 .f32 := broadcastInDim S64x128x2048 ![] bcast_S_S64x128x2048 main_cst
  let main_v2 : IVec S64x128x2048 1 := cmpf .olt main_v0 main_v1
  let main_c : IVec S_ 1 := constantI S_ 1 1#1
  let main_v3 : IVec S_ 1 := (fun x v => Host.reduce IntOp.andi x v reducesTo_S64x128x2048_S_d0_1_2 h_S_) main_v2 main_c
  let main_v4 : FVec F S64x128x2048 .f32 := Host.absf main_arg1
  let main_cst_0 : FVec F S_ .f32 := constant S_ .f32 0x7F800000#32
  let main_v5 : FVec F S64x128x2048 .f32 := broadcastInDim S64x128x2048 ![] bcast_S_S64x128x2048 main_cst_0
  let main_v6 : IVec S64x128x2048 1 := cmpf .olt main_v4 main_v5
  let main_c_1 : IVec S_ 1 := constantI S_ 1 1#1
  let main_v7 : IVec S_ 1 := (fun x v => Host.reduce IntOp.andi x v reducesTo_S64x128x2048_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S64x128x2048 : Shape := ⟨3, ![64, 128, 2048]⟩
abbrev S2048 : Shape := ⟨1, ![2048]⟩
abbrev S1x2048 : Shape := ⟨2, ![1, 2048]⟩
abbrev S64x128x2x2048 : Shape := ⟨4, ![64, 128, 2, 2048]⟩
abbrev S64x8x2048 : Shape := ⟨3, ![64, 8, 2048]⟩
abbrev S64x8x2x2048 : Shape := ⟨4, ![64, 8, 2, 2048]⟩
abbrev S8x2048 : Shape := ⟨2, ![8, 2048]⟩
abbrev S4x2048 : Shape := ⟨2, ![4, 2048]⟩
abbrev S1x64x8x2048 : Shape := ⟨4, ![1, 64, 8, 2048]⟩
abbrev S64x8 : Shape := ⟨2, ![64, 8]⟩
abbrev S64x8x1 : Shape := ⟨3, ![64, 8, 1]⟩
abbrev S1x1x2048 : Shape := ⟨3, ![1, 1, 2048]⟩
abbrev S64x8x1x2048 : Shape := ⟨4, ![64, 8, 1, 2048]⟩
abbrev S64x128x2048x2 : Shape := ⟨4, ![64, 128, 2048, 2]⟩

abbrev nBuf : Space → Nat
  | .hbm => 12
  | .vmem => 14
  | .smem => 0
  | _ => 0

abbrev bufTy : (tb : Table) → Fin (tcTables nBuf tb) → BufTy
  | .hbm, ⟨0, _⟩ => ⟨S64x128x2048, .f32⟩
  | .hbm, ⟨1, _⟩ => ⟨S64x128x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S64x128x2x2048, .f32⟩
  | .hbm, ⟨11, _⟩ => ⟨S64x128x2048x2, .f32⟩
  | .local _ .vmem, ⟨0, _⟩ => ⟨S64x8x2048, .f32⟩
  | .local _ .vmem, ⟨1, _⟩ => ⟨S64x8x2048, .f32⟩
  | .local _ .vmem, ⟨2, _⟩ => ⟨S64x8x2048, .f32⟩
  | .local _ .vmem, ⟨3, _⟩ => ⟨S64x8x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S64x8x2x2048, .f32⟩
  | .local _ .vmem, ⟨9, _⟩ => ⟨S64x8x2x2048, .f32⟩
  | .local _ .vmem, ⟨10, _⟩ => ⟨S8x2048, .f32⟩
  | .local _ .vmem, ⟨11, _⟩ => ⟨S4x2048, .f32⟩
  | .local _ .vmem, ⟨12, _⟩ => ⟨S1x64x8x2048, .f32⟩
  | .local _ .vmem, ⟨13, _⟩ => ⟨S1x64x8x2048, .f32⟩
  | _, _ => ⟨S64x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def k0_cond6 (i : grid0.Coords) : BitVec 1 :=
  let arg0 : BitVec 32 := BitVec.ofNat 32 (i 0).val
  let c1_i32_3 : BitVec 32 := 1#32
  let v8 : BitVec 1 := Scalar.cmpi .eq arg0 c1_i32_3
  let arg1 : BitVec 32 := BitVec.ofNat 32 (i 1).val
  let c0_i32_4 : BitVec 32 := 0#32
  let v9 : BitVec 1 := Scalar.cmpi .eq arg1 c0_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_cond7 (i : grid0.Coords) : BitVec 1 :=
  let arg0 : BitVec 32 := BitVec.ofNat 32 (i 0).val
  let c1_i32_6 : BitVec 32 := 1#32
  let v13 : BitVec 1 := Scalar.cmpi .eq arg0 c1_i32_6
  let arg1 : BitVec 32 := BitVec.ofNat 32 (i 1).val
  let c1_i32_7 : BitVec 32 := 1#32
  let v14 : BitVec 1 := Scalar.cmpi .sge arg1 c1_i32_7
  let v15 : BitVec 1 := Scalar.andi v13 v14
  let v16 : BitVec 32 := Scalar.extui v15
  let c0_i32_8 : BitVec 32 := 0#32
  let v17 : BitVec 1 := Scalar.cmpi .ne v16 c0_i32_8
  v17

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg1 c1_i32_0
  let v2 : BitVec 1 := Scalar.andi v0 v1
  let c15_i32 : BitVec 32 := 15#32
  let v3 : BitVec 32 := Scalar.select v2 c15_i32 arg1
  let c0_i32 : BitVec 32 := 0#32
  let c0_i32_1 : BitVec 32 := 0#32
  let c0_i32_2 : BitVec 32 := 0#32
  ![c0_i32.toNat, v3.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg1 c1_i32_0
  let v2 : BitVec 1 := Scalar.andi v0 v1
  let c15_i32 : BitVec 32 := 15#32
  let v3 : BitVec 32 := Scalar.select v2 c15_i32 arg1
  let c0_i32 : BitVec 32 := 0#32
  let c0_i32_1 : BitVec 32 := 0#32
  let c0_i32_2 : BitVec 32 := 0#32
  ![c0_i32.toNat, v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

abbrev stage0_0 : Fin 2 → Memref sig .tc .vmem S64x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x8x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_nm1" => some ((8191⁻¹ : ℝ) : EReal)
  | _ => none
-- ==== ReferenceIdeal.lean ====
abbrev S64x128x2048 : Shape := ⟨3, ![64, 128, 2048]⟩
abbrev S2048 : Shape := ⟨1, ![2048]⟩
abbrev S_ : Shape := ⟨0, ![]⟩
abbrev S64x128 : Shape := ⟨2, ![64, 128]⟩
abbrev S64x128x1 : Shape := ⟨3, ![64, 128, 1]⟩
abbrev S128x2048 : Shape := ⟨2, ![128, 2048]⟩
abbrev S1x128x2048 : Shape := ⟨3, ![1, 128, 2048]⟩
abbrev S1x1x2048 : Shape := ⟨3, ![1, 1, 2048]⟩
abbrev S64x128x2048x1 : Shape := ⟨4, ![64, 128, 2048, 1]⟩
abbrev S64x128x2048x2 : Shape := ⟨4, ![64, 128, 2048, 2]⟩

abbrev nBuf : Space → Nat
  | .hbm => 165
  | .vmem => 0
  | .smem => 0
  | _ => 0

abbrev hbmTy0_0 (i : Nat) : BufTy := match i % 128 with
  | 0 => ⟨S64x128x2048, .f32⟩
  | 1 => ⟨S64x128x2048, .f32⟩
  | 2 => ⟨S2048, .f32⟩
  | 3 => ⟨S2048, .f32⟩
  | 4 => ⟨S2048, .f32⟩
  | 5 => ⟨S2048, .f32⟩
  | 6 => ⟨S_, .f32⟩
  | 7 => ⟨S64x128, .f32⟩
  | 8 => ⟨S64x128x1, .f32⟩
  | 9 => ⟨S_, .f32⟩
  | 10 => ⟨S64x128x1, .f32⟩
  | 11 => ⟨S64x128x1, .f32⟩
  | 12 => ⟨S_, .f32⟩
  | 13 => ⟨S64x128, .f32⟩
  | 14 => ⟨S64x128x1, .f32⟩
  | 15 => ⟨S_, .f32⟩
  | 16 => ⟨S64x128x1, .f32⟩
  | 17 => ⟨S64x128x1, .f32⟩
  | 18 => ⟨S_, .f32⟩
  | 19 => ⟨S128x2048, .f32⟩
  | 20 => ⟨S1x128x2048, .f32⟩
  | 21 => ⟨S_, .f32⟩
  | 22 => ⟨S1x128x2048, .f32⟩
  | 23 => ⟨S1x128x2048, .f32⟩
  | 24 => ⟨S64x128x2048, .f32⟩
  | 25 => ⟨S64x128x2048, .f32⟩
  | 26 => ⟨S_, .f32⟩
  | 27 => ⟨S128x2048, .f32⟩
  | 28 => ⟨S1x128x2048, .f32⟩
  | 29 => ⟨S_, .f32⟩
  | 30 => ⟨S1x128x2048, .f32⟩
  | 31 => ⟨S1x128x2048, .f32⟩
  | 32 => ⟨S64x128x2048, .f32⟩
  | 33 => ⟨S64x128x2048, .f32⟩
  | 34 => ⟨S64x128x2048, .f32⟩
  | 35 => ⟨S_, .f32⟩
  | 36 => ⟨S2048, .f32⟩
  | 37 => ⟨S_, .f32⟩
  | 38 => ⟨S2048, .f32⟩
  | 39 => ⟨S2048, .f32⟩
  | 40 => ⟨S64x128x2048, .f32⟩
  | 41 => ⟨S_, .f32⟩
  | 42 => ⟨S2048, .f32⟩
  | 43 => ⟨S_, .f32⟩
  | 44 => ⟨S2048, .f32⟩
  | 45 => ⟨S2048, .f32⟩
  | 46 => ⟨S64x128x2048, .f32⟩
  | 47 => ⟨S_, .f32⟩
  | 48 => ⟨S2048, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .i1⟩
  | 62 => ⟨S_, .f32⟩
  | 63 => ⟨S_, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S2048, .f32⟩
  | 71 => ⟨S_, .f32⟩
  | 72 => ⟨S2048, .f32⟩
  | 73 => ⟨S2048, .f32⟩
  | 74 => ⟨S2048, .f32⟩
  | 75 => ⟨S_, .f32⟩
  | 76 => ⟨S2048, .f32⟩
  | 77 => ⟨S2048, .i1⟩
  | 78 => ⟨S_, .f32⟩
  | 79 => ⟨S2048, .f32⟩
  | 80 => ⟨S2048, .i1⟩
  | 81 => ⟨S2048, .f32⟩
  | 82 => ⟨S_, .f32⟩
  | 83 => ⟨S2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S_, .f32⟩
  | 91 => ⟨S_, .f32⟩
  | 92 => ⟨S2048, .f32⟩
  | 93 => ⟨S2048, .f32⟩
  | 94 => ⟨S2048, .f32⟩
  | 95 => ⟨S_, .f32⟩
  | 96 => ⟨S2048, .f32⟩
  | 97 => ⟨S2048, .f32⟩
  | 98 => ⟨S2048, .f32⟩
  | 99 => ⟨S_, .f32⟩
  | 100 => ⟨S2048, .f32⟩
  | 101 => ⟨S2048, .f32⟩
  | 102 => ⟨S2048, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S2048, .f32⟩
  | 117 => ⟨S2048, .f32⟩
  | 118 => ⟨S2048, .f32⟩
  | 119 => ⟨S2048, .f32⟩
  | 120 => ⟨S2048, .f32⟩
  | 121 => ⟨S2048, .f32⟩
  | 122 => ⟨S2048, .f32⟩
  | 123 => ⟨S2048, .f32⟩
  | 124 => ⟨S64x128x2048, .f32⟩
  | 125 => ⟨S64x128x2048, .f32⟩
  | 126 => ⟨S64x128x2048, .f32⟩
  | 127 => ⟨S64x128x2048, .f32⟩
  | _ => ⟨S64x128x2048, .f32⟩

abbrev hbmTy0_1 (i : Nat) : BufTy := match i % 128 with
  | 0 => ⟨S1x1x2048, .f32⟩
  | 1 => ⟨S64x128x2048, .f32⟩
  | 2 => ⟨S64x128x2048, .f32⟩
  | 3 => ⟨S1x1x2048, .f32⟩
  | 4 => ⟨S64x128x2048, .f32⟩
  | 5 => ⟨S64x128x2048, .f32⟩
  | 6 => ⟨S64x128x2048, .f32⟩
  | 7 => ⟨S1x1x2048, .f32⟩
  | 8 => ⟨S64x128x2048, .f32⟩
  | 9 => ⟨S64x128x2048, .f32⟩
  | 10 => ⟨S1x1x2048, .f32⟩
  | 11 => ⟨S64x128x2048, .f32⟩
  | 12 => ⟨S64x128x2048, .f32⟩
  | 13 => ⟨S64x128x2048, .f32⟩
  | 14 => ⟨S1x1x2048, .f32⟩
  | 15 => ⟨S64x128x2048, .f32⟩
  | 16 => ⟨S64x128x2048, .f32⟩
  | 17 => ⟨S1x1x2048, .f32⟩
  | 18 => ⟨S64x128x2048, .f32⟩
  | 19 => ⟨S64x128x2048, .f32⟩
  | 20 => ⟨S64x128x2048, .f32⟩
  | 21 => ⟨S1x1x2048, .f32⟩
  | 22 => ⟨S64x128x2048, .f32⟩
  | 23 => ⟨S64x128x2048, .f32⟩
  | 24 => ⟨S1x1x2048, .f32⟩
  | 25 => ⟨S64x128x2048, .f32⟩
  | 26 => ⟨S64x128x2048, .f32⟩
  | 27 => ⟨S1x1x2048, .f32⟩
  | 28 => ⟨S64x128x2048, .f32⟩
  | 29 => ⟨S64x128x2048, .f32⟩
  | 30 => ⟨S64x128x2048, .f32⟩
  | 31 => ⟨S1x1x2048, .f32⟩
  | 32 => ⟨S64x128x2048, .f32⟩
  | 33 => ⟨S64x128x2048, .f32⟩
  | 34 => ⟨S64x128x2048x1, .f32⟩
  | 35 => ⟨S64x128x2048x1, .f32⟩
  | 36 => ⟨S64x128x2048x2, .f32⟩
  | _ => ⟨S64x128x2048, .f32⟩

abbrev hbmTy (i : Nat) : BufTy := match i / 128 with
  | 0 => hbmTy0_0 i
  | 1 => hbmTy0_1 i
  | _ => ⟨S64x128x2048, .f32⟩

abbrev bufTy : (tb : Table) → Fin (tcTables nBuf tb) → BufTy
  | .hbm, ⟨i, _⟩ => hbmTy i
  | _, _ => ⟨S64x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_cst_10 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_v29 : Ref sig .tc := ⟨.hbm, 48, rfl⟩
abbrev main_cst_12 : Ref sig .tc := ⟨.hbm, 49, rfl⟩
abbrev main_v30 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_15 : Ref sig .tc := ⟨.hbm, 59, rfl⟩
abbrev main_v37 : Ref sig .tc := ⟨.hbm, 60, rfl⟩
abbrev main_v38 : Ref sig .tc := ⟨.hbm, 61, rfl⟩
abbrev main_cst_16 : Ref sig .tc := ⟨.hbm, 62, rfl⟩
abbrev main_call0_v0 : Ref sig .tc := ⟨.hbm, 63, rfl⟩
abbrev main_call0_v1 : Ref sig .tc := ⟨.hbm, 64, rfl⟩
abbrev main_v39 : Ref sig .tc := ⟨.hbm, 65, rfl⟩
abbrev main_cst_17 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_18 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_19 : Ref sig .tc := ⟨.hbm, 75, rfl⟩
abbrev main_v47 : Ref sig .tc := ⟨.hbm, 76, rfl⟩
abbrev main_v48 : Ref sig .tc := ⟨.hbm, 77, rfl⟩
abbrev main_cst_20 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_21 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_22 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_23 : Ref sig .tc := ⟨.hbm, 90, rfl⟩
abbrev main_call2_v0 : Ref sig .tc := ⟨.hbm, 91, rfl⟩
abbrev main_call2_v1 : Ref sig .tc := ⟨.hbm, 92, rfl⟩
abbrev main_v58 : Ref sig .tc := ⟨.hbm, 93, rfl⟩
abbrev main_v59 : Ref sig .tc := ⟨.hbm, 94, rfl⟩
abbrev main_cst_24 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_25 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩

abbrev nD : Nat := 1
abbrev τ : Topo := Topo.v7x

variable {F : FTy → Type} [FloatOps F]
-- ==== Proof.Bits.lean ====
/- The kernel over bit patterns: every execution ends, the arguments as they were and every counter at zero. Nothing is said
   of what the output holds, so no scratch buffer is named: a point takes every one at anything and leaves it at anything. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is in the first pass over the batch (the accumulation). -/
abbrev accum (i : grid0.Coords) : Prop := (Scalar.cmpi .ne (Scalar.extui (Scalar.cmpi .eq (BitVec.ofNat 32 (i 0).val) 0#32)) 0#32) = 1#1
/-- The point is the first of its pass. -/
abbrev first (i : grid0.Coords) : Prop := (Scalar.cmpi .ne (Scalar.extui (Scalar.cmpi .eq (BitVec.ofNat 32 (i 1).val) 0#32)) 0#32) = 1#1
/-- The point is a later one of its pass. -/
abbrev later (i : grid0.Coords) : Prop := (Scalar.cmpi .ne (Scalar.extui (Scalar.cmpi .ne (BitVec.ofNat 32 (i 1).val) 0#32)) 0#32) = 1#1
/-- The point is the first of the second pass, where the coefficients are computed. -/
abbrev solve (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The point applies the coefficients to the kept block. -/
abbrev applyKept (i : grid0.Coords) : Prop := k0_cond6 i = 1#1
/-- The point applies the coefficients to the block it fetches. -/
abbrev applyNew (i : grid0.Coords) : Prop := k0_cond7 i = 1#1

/-- Every grid point is of one of four kinds: the first, a later one of the first pass, the first of the second pass, a later
    one of that. -/
theorem kinds : ∀ t : Fin grid0.N,
    (accum (grid0.coords t) ∧ first (grid0.coords t) ∧ ¬later (grid0.coords t) ∧ ¬solve (grid0.coords t) ∧ ¬applyKept (grid0.coords t) ∧ ¬applyNew (grid0.coords t))
    ∨ (accum (grid0.coords t) ∧ ¬first (grid0.coords t) ∧ later (grid0.coords t) ∧ ¬solve (grid0.coords t) ∧ ¬applyKept (grid0.coords t) ∧ ¬applyNew (grid0.coords t))
    ∨ (¬accum (grid0.coords t) ∧ solve (grid0.coords t) ∧ applyKept (grid0.coords t) ∧ ¬applyNew (grid0.coords t))
    ∨ (¬accum (grid0.coords t) ∧ ¬solve (grid0.coords t) ∧ ¬applyKept (grid0.coords t) ∧ applyNew (grid0.coords t)) := by
  decide +kernel

set_option maxHeartbeats 1600000 in
/-- The body at the first point. -/
theorem run_first (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : accum i) (hfst : first i) (hlat : ¬later i) (hslv : ¬solve i) (hkept : ¬applyKept i) (hnew : ¬applyNew i)
    (x0 x1 : Vec F S64x8x2048 .f32) (x2 x3 x4 x5 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hacc | sl_exact hfst | sl_exact hlat | sl_exact hslv | sl_exact hkept | sl_exact hnew)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1600000 in
/-- The body at a later point of the first pass. -/
theorem run_later (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : accum i) (hfst : ¬first i) (hlat : later i) (hslv : ¬solve i) (hkept : ¬applyKept i) (hnew : ¬applyNew i)
    (x0 x1 : Vec F S64x8x2048 .f32) (x2 x3 x4 x5 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hacc | sl_exact hfst | sl_exact hlat | sl_exact hslv | sl_exact hkept | sl_exact hnew)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1600000 in
/-- The body at the first point of the second pass. -/
theorem run_solve (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : ¬accum i) (hslv : solve i) (hkept : applyKept i) (hnew : ¬applyNew i)
    (x0 x1 : Vec F S64x8x2048 .f32) (x2 x3 x4 x5 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hacc | sl_exact hslv | sl_exact hkept | sl_exact hnew)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

set_option maxHeartbeats 1600000 in
/-- The body at a later point of the second pass. -/
theorem run_apply (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : ¬accum i) (hslv : ¬solve i) (hkept : ¬applyKept i) (hnew : applyNew i)
    (x0 x1 : Vec F S64x8x2048 .f32) (x2 x3 x4 x5 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  simp only [k0_part1_eq_skeleton, k0_part2_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hacc | sl_exact hslv | sl_exact hkept | sl_exact hnew)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-- Window 0's buffer at a point, and that it is a whole one. -/
abbrev buf0 (t : Fin cfg0.N) : Memref sig .tc .vmem S64x8x2048 .f32 := win0_0.stage (cfg0.slots t 0)
abbrev whole0 (t : Fin cfg0.N) : (buf0 t).IsWhole := hstage0_0 ((cfg0.slots t 0).cast nbuf0_0)
/-- Window 1's buffer at a point, and that it is a whole one. -/
abbrev buf1 (t : Fin cfg0.N) : Memref sig .tc .vmem S64x8x2048 .f32 := win0_1.stage (cfg0.slots t 1)
abbrev whole1 (t : Fin cfg0.N) : (buf1 t).IsWhole := hstage0_1 ((cfg0.slots t 1).cast nbuf0_1)
/-- Window 2's buffer at a point, and that it is a whole one. -/
abbrev buf2 (t : Fin cfg0.N) : Memref sig .tc .vmem S1x2048 .f32 := win0_2.stage (cfg0.slots t 2)
abbrev whole2 (t : Fin cfg0.N) : (buf2 t).IsWhole := hstage0_2 ((cfg0.slots t 2).cast nbuf0_2)
/-- Window 3's buffer at a point, and that it is a whole one. -/
abbrev buf3 (t : Fin cfg0.N) : Memref sig .tc .vmem S1x2048 .f32 := win0_3.stage (cfg0.slots t 3)
abbrev whole3 (t : Fin cfg0.N) : (buf3 t).IsWhole := hstage0_3 ((cfg0.slots t 3).cast nbuf0_3)
/-- Window 4's buffer at a point, and that it is a whole one. -/
abbrev buf4 (t : Fin cfg0.N) : Memref sig .tc .vmem S1x2048 .f32 := win0_4.stage (cfg0.slots t 4)
abbrev whole4 (t : Fin cfg0.N) : (buf4 t).IsWhole := hstage0_4 ((cfg0.slots t 4).cast nbuf0_4)
/-- Window 5's buffer at a point, and that it is a whole one. -/
abbrev buf5 (t : Fin cfg0.N) : Memref sig .tc .vmem S1x2048 .f32 := win0_5.stage (cfg0.slots t 5)
abbrev whole5 (t : Fin cfg0.N) : (buf5 t).IsWhole := hstage0_5 ((cfg0.slots t 5).cast nbuf0_5)
/-- Window 6's buffer at a point, and that it is a whole one. -/
abbrev buf6 (t : Fin cfg0.N) : Memref sig .tc .vmem S64x8x2x2048 .f32 := win0_6.stage (cfg0.slots t 6)
abbrev whole6 (t : Fin cfg0.N) : (buf6 t).IsWhole := hstage0_6 ((cfg0.slots t 6).cast nbuf0_6)
/-- Scratch buffer 0. -/
abbrev scr0 : Memref sig .tc .vmem S8x2048 .f32 := Memref.whole cc0_scratch0
/-- Scratch buffer 1. -/
abbrev scr1 : Memref sig .tc .vmem S4x2048 .f32 := Memref.whole cc0_scratch1
/-- Scratch buffer 2. -/
abbrev scr2 : Memref sig .tc .vmem S1x64x8x2048 .f32 := Memref.whole cc0_scratch2
/-- Scratch buffer 3. -/
abbrev scr3 : Memref sig .tc .vmem S1x64x8x2048 .f32 := Memref.whole cc0_scratch3

/-- The scratch buffers and the generator's register, each at something. -/
theorem rest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The output window is the one of which nothing is said. -/
def unsaid : Fin 7 → Bool := fun w => w.val == 6

/-- The pipeline's proof data: every input's buffer left as it is, the output's and every scratch buffer at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem Phi_eq (c : Dev nD) (t : Fin (cfg0.N + 1)) : (dats m 0 c).Φ t = Pipeline.ΦA spec0 c := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem leaves0 (c : Dev nD) (t : Fin cfg0.N) :
    (dats m 0 c).leavesExact 0 t = owns (c : Thread nD τ) (buf0 t) fullShare (iblk m c 0 t) := by
  rw [← after0 m c t]
theorem leaves1 (c : Dev nD) (t : Fin cfg0.N) :
    (dats m 0 c).leavesExact 1 t = owns (c : Thread nD τ) (buf1 t) fullShare (iblk m c 1 t) := by
  rw [← after1 m c t]
theorem leaves2 (c : Dev nD) (t : Fin cfg0.N) :
    (dats m 0 c).leavesExact 2 t = owns (c : Thread nD τ) (buf2 t) fullShare (iblk m c 2 t) := by
  rw [← after2 m c t]
theorem leaves3 (c : Dev nD) (t : Fin cfg0.N) :
    (dats m 0 c).leavesExact 3 t = owns (c : Thread nD τ) (buf3 t) fullShare (iblk m c 3 t) := by
  rw [← after3 m c t]
theorem leaves4 (c : Dev nD) (t : Fin cfg0.N) :
    (dats m 0 c).leavesExact 4 t = owns (c : Thread nD τ) (buf4 t) fullShare (iblk m c 4 t) := by
  rw [← after4 m c t]
theorem leaves5 (c : Dev nD) (t : Fin cfg0.N) :
    (dats m 0 c).leavesExact 5 t = owns (c : Thread nD τ) (buf5 t) fullShare (iblk m c 5 t) := by
  rw [← after5 m c t]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (buf6 t) fullShare d))

set_option maxHeartbeats 3200000 in
/-- The body at any point. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl, Phi_eq, Phi_eq, rest_eq]
  rw [leaves0, leaves1, leaves2, leaves3, leaves4, leaves5]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, H6⟩
  obtain ⟨h0, h1, h2, h3, h4, h5⟩ | ⟨h0, h1, h2, h3, h4, h5⟩ | ⟨h0, h1, h2, h3⟩ | ⟨h0, h1, h2, h3⟩ := kinds t
  · iapply (run_first c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) h0 h1 h2 h3 h4 h5 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (run_later c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) h0 h1 h2 h3 h4 h5 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (run_solve c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) h0 h1 h2 h3 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (run_apply c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) h0 h1 h2 h3 (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_of_table (t : Fin cfg0.N) :
    defs₀ (F := F) .tc cfg0.body (cfg0.bodyArgs t (cfg0.slots t)) = bodyAt0 t := by
  unfold defs₀; rw [Defs.onTc_tc]

/-- The pipeline's condition on the body, at every point. -/
theorem body_all (c : Dev nD) : BodyObligation (dats (F := F) m 0 c) (defs₀ (F := F)) Variants.none () Set.univ unsaid := fun t => by
  rw [bigSep_W0, bigSep_W0, row_of_table]
  exact triple_restated (body_point m c t) rfl .rfl fun _ => .rfl

/-- The only buffer written after the region is the transposed result. -/
theorem written_after : ∀ ops ∈ ([hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.unary_writes, Finset.mem_singleton] at hb
  rw [Finset.mem_singleton]
  exact Proc.devRef_injective _ hb

set_option backward.isDefEq.respectTransparency.types false in
set_option maxHeartbeats 1600000 in
/-- The launch: every execution ends, every input array as the region found it and every counter at zero. -/
theorem launched : θ_run defs (onTc (τ := τ) (main (F := F))) (s₀ m ρ) (fun r =>
    Pipeline.RDat.FramePostR (cfgs 0) (fun c => (dats m 0 c).toRForget unsaid) {main_v5} (V m) r ∧ r.2.sem = fun _ => 0) :=
  Pipeline.θ_run_frame_around_T_track_forget (Q' := _) cfgs (dats m) (0 : Fin 1) launch0 defs₀ Variants.none unsaid {main_v5} m ρ main
    (hbody := fun c => (body_all m c).loose) (hshare := fun c => (dats m 0 c).share_full fun _ => rfl)
    (howed := fun _ _ => rfl) (V₀ := V0 m) (opss := [hostOps1]) (hsub := sfx_sub) (hfresh := sfx_fresh) (hkeep := sfx_keeps)
    (hT := written_after) (hmain := hmain m Variants.none) (hA := A_eq m)
    (hin := fun c => by rw [Phi_eq]) (hout := fun c => by rw [Phi_eq])

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have rest : ∀ b, b ∈ Pipeline.restRefs sig spec0 → b ≠ main_v5 → b ∈ Pipeline.restRefs sig spec0 \ {main_v5} :=
    fun b hb hne => Finset.mem_sdiff.mpr ⟨hb, by rwa [Finset.mem_singleton]⟩
  refine (θ_run defs _ _).mono (fun r h => ⟨fun c => ⟨?_, ?_, ?_, ?_, ?_, ?_⟩, h.2⟩) (launched m ρ)
  · exact (Pipeline.RDat.FramePostR.arr_in h.1 c 0 rfl).trans ((A_eq m c 0).trans (V_main_arg0 m c))
  · exact (Pipeline.RDat.FramePostR.arr_in h.1 c 1 rfl).trans ((A_eq m c 1).trans (V_main_arg1 m c))
  · exact ((h.1 c).2 main_arg2 (rest _ (Pipeline.mem_restRefs_of main_arg2 (by decide) (by decide)) (by decide))).trans (V_main_arg2 m c)
  · exact ((h.1 c).2 main_arg3 (rest _ (Pipeline.mem_restRefs_of main_arg3 (by decide) (by decide)) (by decide))).trans (V_main_arg3 m c)
  · exact ((h.1 c).2 main_arg4 (rest _ (Pipeline.mem_restRefs_of main_arg4 (by decide) (by decide)) (by decide))).trans (V_main_arg4 m c)
  · exact ((h.1 c).2 main_arg5 (rest _ (Pipeline.mem_restRefs_of main_arg5 (by decide) (by decide)) (by decide))).trans (V_main_arg5 m c)

end Cert.Kernel.Hand

end
-- ==== Proof.Conds.lean ====
/- The kernel's branch conditions as statements about the position of a grid point, and the buffers its body is called
   with there. The grid has 32 points: 0 to 15 accumulate (point 0 also starts the sums and keeps its block), 16 computes
   the coefficients and applies them to the kept block, 17 to 31 apply them to the block they fetch. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise
public import Idealize.ShloMosaic.Lib.WritesUnit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The point is in the first pass over the batch (the accumulation). -/
abbrev accum (i : grid0.Coords) : Prop := (Scalar.cmpi .ne (Scalar.extui (Scalar.cmpi .eq (BitVec.ofNat 32 (i 0).val) 0#32)) 0#32) = 1#1
/-- The point is the first of its pass. -/
abbrev first (i : grid0.Coords) : Prop := (Scalar.cmpi .ne (Scalar.extui (Scalar.cmpi .eq (BitVec.ofNat 32 (i 1).val) 0#32)) 0#32) = 1#1
/-- The point is a later one of its pass. -/
abbrev later (i : grid0.Coords) : Prop := (Scalar.cmpi .ne (Scalar.extui (Scalar.cmpi .ne (BitVec.ofNat 32 (i 1).val) 0#32)) 0#32) = 1#1
/-- The point is the first of the second pass, where the coefficients are computed. -/
abbrev solve (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The point applies the coefficients to the kept block. -/
abbrev applyKept (i : grid0.Coords) : Prop := k0_cond6 i = 1#1
/-- The point applies the coefficients to the block it fetches. -/
abbrev applyNew (i : grid0.Coords) : Prop := k0_cond7 i = 1#1

/-- A point's first coordinate is its position divided by 16. -/
theorem coord0 (t : Fin grid0.N) : (grid0.coords t 0).val = t.val / 16 % 2 := Pipeline.Grid.coords_val t 0 (by decide) rfl
/-- A point's second coordinate is its position modulo 16. -/
theorem coord1 (t : Fin grid0.N) : (grid0.coords t 1).val = t.val / 1 % 16 := Pipeline.Grid.coords_val t 1 (by decide) rfl
/-- The grid has 32 points. -/
theorem lt32 (t : Fin grid0.N) : t.val < 32 := Nat.lt_of_lt_of_eq t.isLt N_0

/-- The accumulation runs at the positions below 16. -/
theorem accum_iff (t : Fin grid0.N) : accum (grid0.coords t) ↔ t.val < 16 := by
  have ht := lt32 t
  have e0 := coord0 t
  simp only [accum, e0]
  word_cmp
/-- A pass starts at the multiples of 16. -/
theorem first_iff (t : Fin grid0.N) : first (grid0.coords t) ↔ t.val % 16 = 0 := by
  have ht := lt32 t
  have e1 := coord1 t
  simp only [first, e1]
  word_cmp
/-- The other positions of a pass are later ones. -/
theorem later_iff (t : Fin grid0.N) : later (grid0.coords t) ↔ 1 ≤ t.val % 16 := by
  have ht := lt32 t
  have e1 := coord1 t
  simp only [later, e1]
  word_cmp
/-- The coefficients are computed at position 16. -/
theorem solve_iff (t : Fin grid0.N) : solve (grid0.coords t) ↔ t.val = 16 := by
  have ht := lt32 t
  have e0 := coord0 t
  have e1 := coord1 t
  have : t.val = 16 ↔ t.val % 32 = 16 := by omega
  rw [this]
  simp only [solve, e0, e1]
  word_cmp
/-- The kept block is served at position 16. -/
theorem applyKept_iff (t : Fin grid0.N) : applyKept (grid0.coords t) ↔ t.val = 16 := by
  have ht := lt32 t
  have e0 := coord0 t
  have e1 := coord1 t
  have : t.val = 16 ↔ t.val % 32 = 16 := by omega
  rw [this]
  simp only [applyKept, k0_cond6, e0, e1]
  word_cmp
/-- The fetched blocks are served from position 17 on. -/
theorem applyNew_iff : ∀ t : Fin grid0.N, applyNew (grid0.coords t) ↔ 17 ≤ t.val := by decide +kernel

/-- What the coefficient scratch holds: four rows, each one vector over the features. -/
def rows4 (r0 r1 r2 r3 : Vec F S1x2048 .f32) : Vec F S4x2048 .f32 := fun y =>
  (if (y 0).val = 0 then r0 else if (y 0).val = 1 then r1 else if (y 0).val = 2 then r2 else r3) (ix2 0 (y 1))

/-- What an output block holds: a real plane and an imaginary one, side by side along the third axis. -/
def planes (p0 p1 : Vec F S64x8x1x2048 .f32) : Vec F S64x8x2x2048 .f32 := fun y =>
  (if (y 2).val = 0 then p0 else p1) (ix4 (y 0) (y 1) 0 (y 3))

/-- The coefficient rows the sums `acc` and the scales `g0`, `g1` give. -/
def coef (acc : Vec F S8x2048 .f32) (g0 g1 : Vec F S1x2048 .f32) : Vec F S4x2048 .f32 :=
  rows4 (k0_pay9 (k0_pay22 acc) (k0_pay23 acc) (k0_pay25 acc) g0 g1) (k0_pay10 (k0_pay22 acc) (k0_pay24 acc) (k0_pay25 acc) g0 g1)
    (k0_pay11 (k0_pay22 acc) (k0_pay23 acc) (k0_pay25 acc) g0 g1) (k0_pay12 (k0_pay22 acc) (k0_pay24 acc) (k0_pay25 acc) g0 g1)

/-- Row `r` of the coefficient scratch. -/
def row (co : Vec F S4x2048 .f32) (r : Fin 4) : Vec F S1x2048 .f32 := fun y => co (ix2 r (y 1))

/-- The output block from a kept block: its parts `k0`, `k1`, the coefficients and the shifts. -/
def outKept (k0 k1 : Vec F S1x64x8x2048 .f32) (co : Vec F S4x2048 .f32) (b0 b1 : Vec F S1x2048 .f32) : Vec F S64x8x2x2048 .f32 :=
  planes (k0_pay13 (k0_pay30 k0 k1 (row co 0) (row co 1) b0))
    (k0_pay14 (k0_pay26 (row co 2)) (k0_pay27 (row co 3)) (k0_pay28 k0) (k0_pay29 k1) b1)

/-- The output block from a fetched block: its parts `x0`, `x1`, the coefficients and the shifts. -/
def outNew (x0 x1 : Vec F S64x8x2048 .f32) (co : Vec F S4x2048 .f32) (b0 b1 : Vec F S1x2048 .f32) : Vec F S64x8x2x2048 .f32 :=
  planes (k0_pay15 (k0_pay35 x0 x1 (row co 0) (row co 1) b0))
    (k0_pay16 (k0_pay31 (row co 2)) (k0_pay32 (row co 3)) (k0_pay33 x0) (k0_pay34 x1) b1)

end Cert.KernelIdeal.Hand

end
-- ==== Proof.Cells.lean ====
/- What stores and loads of rows and planes of a buffer read back. -/
module

public import proofs.«01_k».proof.Proof.Conds

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

section

variable {κ : Kind} {sp : Space}

/-- A load of one row of a four-row buffer reads that row of its contents. -/
theorem readAt_row (v : View sig κ sp S4x2048 .f32) (f : v.ty.Contents (Elt F)) (off : Fin 2 → ℕ) (r : Fin 4) (hoff : off = ![r.val, 0])
    (inb : ∀ a, off a + (![1, 2048] : Fin 2 → ℕ) a ≤ S4x2048.size a) :
    v.readAt (Elt F) (Rect.unit (s := S4x2048) off ![1, 2048] inb).toLoadRect f = row (v.read (Elt F) f) r := by
  subst hoff
  funext y
  rw [View.readAt_apply]
  unfold row
  congr 1
  funext a
  match a with
  | ⟨0, _⟩ =>
    apply Fin.ext
    have h : (y 0).val < 1 := (y 0).isLt
    show r.val + 1 * (y 0).val = r.val
    omega
  | ⟨1, _⟩ =>
    apply Fin.ext
    show 0 + 1 * (y 1).val = (y 1).val
    omega

/-- The same, the row's extents spelt as its shape's. -/
theorem readAt_rowS (v : View sig κ sp S4x2048 .f32) (f : v.ty.Contents (Elt F)) (off : Fin 2 → ℕ) (r : Fin 4) (hoff : off = ![r.val, 0])
    (inb : ∀ a, off a + S1x2048.size a ≤ S4x2048.size a) :
    v.readAt (Elt F) (Rect.unit (s := S4x2048) off S1x2048.size inb).toLoadRect f = row (v.read (Elt F) f) r :=
  readAt_row v f off r hoff inb

/-- A load of a whole one-row buffer reads its contents. -/
theorem readAt_one (v : View sig κ sp S1x2048 .f32) (f : v.ty.Contents (Elt F))
    (inb : ∀ a, (![0, 0] : Fin 2 → ℕ) a + (![1, 2048] : Fin 2 → ℕ) a ≤ S1x2048.size a) :
    v.readAt (Elt F) (Rect.unit (s := S1x2048) ![0, 0] ![1, 2048] inb).toLoadRect f = v.read (Elt F) f :=
  View.readAt_full v f inb

/-- Four stores, one per row, leave the four rows. -/
theorem read_rows4 (v : View sig κ sp S4x2048 .f32) (f : v.ty.Contents (Elt F)) (r0 r1 r2 r3 : Vec F S1x2048 .f32)
    (i0 : ∀ a, (![0, 0] : Fin 2 → ℕ) a + (![1, 2048] : Fin 2 → ℕ) a ≤ S4x2048.size a)
    (i1 : ∀ a, (![1, 0] : Fin 2 → ℕ) a + (![1, 2048] : Fin 2 → ℕ) a ≤ S4x2048.size a)
    (i2 : ∀ a, (![2, 0] : Fin 2 → ℕ) a + (![1, 2048] : Fin 2 → ℕ) a ≤ S4x2048.size a)
    (i3 : ∀ a, (![3, 0] : Fin 2 → ℕ) a + (![1, 2048] : Fin 2 → ℕ) a ≤ S4x2048.size a) :
    v.read (Elt F) (v.writes (Elt F) f [⟨Rect.unit (s := S4x2048) ![3, 0] ![1, 2048] i3, r3⟩, ⟨Rect.unit (s := S4x2048) ![2, 0] ![1, 2048] i2, r2⟩,
      ⟨Rect.unit (s := S4x2048) ![1, 0] ![1, 2048] i1, r1⟩, ⟨Rect.unit (s := S4x2048) ![0, 0] ![1, 2048] i0, r0⟩]) = rows4 r0 r1 r2 r3 := by
  funext y
  have hy : (y 0).val < 4 := (y 0).isLt
  unfold rows4
  by_cases h3 : (y 0).val = 3
  · rw [View.read_writes_cons_unit_of_mem v f i3 r3 _ y (ix2 0 (y 1)) rfl (fun a => by
      match a with
      | ⟨0, _⟩ => exact h3
      | ⟨1, _⟩ => exact (Nat.zero_add _).symm)]
    rw [if_neg (by omega), if_neg (by omega), if_neg (by omega)]
  rw [View.read_writes_cons_unit_of_not_mem v f i3 r3 _ y rfl 0 (.inl (by show (y 0).val < 3; omega))]
  by_cases h2 : (y 0).val = 2
  · rw [View.read_writes_cons_unit_of_mem v f i2 r2 _ y (ix2 0 (y 1)) rfl (fun a => by
      match a with
      | ⟨0, _⟩ => exact h2
      | ⟨1, _⟩ => exact (Nat.zero_add _).symm)]
    rw [if_neg (by omega), if_neg (by omega), if_pos h2]
  rw [View.read_writes_cons_unit_of_not_mem v f i2 r2 _ y rfl 0 (.inl (by show (y 0).val < 2; omega))]
  by_cases h1 : (y 0).val = 1
  · rw [View.read_writes_cons_unit_of_mem v f i1 r1 _ y (ix2 0 (y 1)) rfl (fun a => by
      match a with
      | ⟨0, _⟩ => exact h1
      | ⟨1, _⟩ => exact (Nat.zero_add _).symm)]
    rw [if_neg (by omega), if_pos h1]
  rw [View.read_writes_cons_unit_of_not_mem v f i1 r1 _ y rfl 0 (.inl (by show (y 0).val < 1; omega))]
  have h0 : (y 0).val = 0 := by omega
  rw [View.read_writes_cons_unit_of_mem v f i0 r0 _ y (ix2 0 (y 1)) rfl (fun a => by
    match a with
    | ⟨0, _⟩ => exact h0
    | ⟨1, _⟩ => exact (Nat.zero_add _).symm)]
  rw [if_pos h0]

/-- Two stores, one per plane, leave the two planes. -/
theorem read_planes (v : View sig κ sp S64x8x2x2048 .f32) (f : v.ty.Contents (Elt F)) (p0 p1 : Vec F S64x8x1x2048 .f32)
    (i0 : ∀ a, (![0, 0, 0, 0] : Fin 4 → ℕ) a + (![64, 8, 1, 2048] : Fin 4 → ℕ) a ≤ S64x8x2x2048.size a)
    (i1 : ∀ a, (![0, 0, 1, 0] : Fin 4 → ℕ) a + (![64, 8, 1, 2048] : Fin 4 → ℕ) a ≤ S64x8x2x2048.size a) :
    v.read (Elt F) (v.writes (Elt F) f [⟨Rect.unit (s := S64x8x2x2048) ![0, 0, 1, 0] ![64, 8, 1, 2048] i1, p1⟩,
      ⟨Rect.unit (s := S64x8x2x2048) ![0, 0, 0, 0] ![64, 8, 1, 2048] i0, p0⟩]) = planes p0 p1 := by
  funext y
  have hy : (y 2).val < 2 := (y 2).isLt
  unfold planes
  by_cases h1 : (y 2).val = 1
  · rw [View.read_writes_cons_unit_of_mem v f i1 p1 _ y (ix4 (y 0) (y 1) 0 (y 3)) rfl (fun a => by
      match a with
      | ⟨0, _⟩ => exact (Nat.zero_add _).symm
      | ⟨1, _⟩ => exact (Nat.zero_add _).symm
      | ⟨2, _⟩ => exact h1
      | ⟨3, _⟩ => exact (Nat.zero_add _).symm)]
    rw [if_neg (by omega)]
  rw [View.read_writes_cons_unit_of_not_mem v f i1 p1 _ y rfl 2 (.inl (by show (y 2).val < 1; omega))]
  have h0 : (y 2).val = 0 := by omega
  rw [View.read_writes_cons_unit_of_mem v f i0 p0 _ y (ix4 (y 0) (y 1) 0 (y 3)) rfl (fun a => by
    match a with
    | ⟨0, _⟩ => exact (Nat.zero_add _).symm
    | ⟨1, _⟩ => exact (Nat.zero_add _).symm
    | ⟨2, _⟩ => exact h0
    | ⟨3, _⟩ => exact (Nat.zero_add _).symm)]
  rw [if_pos h0]

end

end Cert.KernelIdeal.Hand

end
-- ==== Proof.RunA.lean ====
/- The body at the first point: it starts the sums and keeps the block. -/
module

public import proofs.«01_k».proof.Proof.Cells

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The first point: on the block `x0`, `x1` the sums become its own, and the kept block becomes it. -/
theorem run_first (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : accum i) (hfst : first i) (hlat : ¬later i) (hslv : ¬solve i) (hkept : ¬applyKept i) (hnew : ¬applyNew i)
    (x0 x1 : Vec F S64x8x2048 .f32) (E : Set ℕ) (K : PUnit → sProp 𝕄) :
    iprop(owns (c : Thread nD τ) arg2 fullShare x0 ∗ owns (c : Thread nD τ) arg3 fullShare x1 ∗ (∃ d, owns (c : Thread nD τ) arg9 fullShare d) ∗ (∃ d, owns (c : Thread nD τ) arg11 fullShare d) ∗ (∃ d, owns (c : Thread nD τ) arg12 fullShare d)
      ∗ (iprop(owns (c : Thread nD τ) arg2 fullShare x0 ∗ owns (c : Thread nD τ) arg3 fullShare x1 ∗ owns (c : Thread nD τ) arg9 fullShare (k0_pay2 x0 x1) ∗ owns (c : Thread nD τ) arg11 fullShare (k0_pay4 x0) ∗ owns (c : Thread nD τ) arg12 fullShare (k0_pay5 x1)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  unfold owns
  iintro ⟨⟨%f2, %hf2, H2⟩, ⟨%f3, %hf3, H3⟩, ⟨%d9, %f9, -, H9⟩, ⟨%d11, %f11, -, H11⟩, ⟨%d12, %f12, -, H12⟩, Hk⟩
  obtain rfl := harg2.eq_unread hf2; obtain rfl := harg3.eq_unread hf3
  sl_exec (disch := first | sl_exact hacc | sl_exact hfst | sl_exact hlat | sl_exact hslv | sl_exact hkept | sl_exact hnew)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H9]
  · iexists _; isplitr; swap; · iexact H9
    ipureintro
    rw [View.read_writes_full, View.readAt_full, View.readAt_full, hf2, hf3]
  isplitl [H11]
  · iexists _; isplitr; swap; · iexact H11
    ipureintro
    rw [View.read_writes_full, View.readAt_full, hf2]
  iexists _; isplitr; swap; · iexact H12
  ipureintro
  rw [View.read_writes_full, View.readAt_full, hf3]

end Cert.KernelIdeal.Hand

end
-- ==== Proof.RunB.lean ====
/- The body at the other points of the first pass: it adds to the sums. -/
module

public import proofs.«01_k».proof.Proof.Cells

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- A later point of the first pass: the sums `a` grow by those of the block `x0`, `x1`. -/
theorem run_later (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : accum i) (hfst : ¬first i) (hlat : later i) (hslv : ¬solve i) (hkept : ¬applyKept i) (hnew : ¬applyNew i)
    (x0 x1 : Vec F S64x8x2048 .f32) (a : Vec F S8x2048 .f32) (E : Set ℕ) (K : PUnit → sProp 𝕄) :
    iprop(owns (c : Thread nD τ) arg2 fullShare x0 ∗ owns (c : Thread nD τ) arg3 fullShare x1 ∗ owns (c : Thread nD τ) arg9 fullShare a
      ∗ (iprop(owns (c : Thread nD τ) arg2 fullShare x0 ∗ owns (c : Thread nD τ) arg3 fullShare x1 ∗ owns (c : Thread nD τ) arg9 fullShare (k0_pay3 x0 x1 a)) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  unfold owns
  iintro ⟨⟨%f2, %hf2, H2⟩, ⟨%f3, %hf3, H3⟩, ⟨%f9, %hf9, H9⟩, Hk⟩
  obtain rfl := harg2.eq_unread hf2; obtain rfl := harg3.eq_unread hf3; obtain rfl := harg9.eq_unread hf9
  sl_exec (disch := first | sl_exact hacc | sl_exact hfst | sl_exact hlat | sl_exact hslv | sl_exact hkept | sl_exact hnew)
  sl_step
  iapply Hk
  isplitl [H2]
  · iexists _; isplitr; swap; · iexact H2
    ipureintro
    exact harg2.read_unread _
  isplitl [H3]
  · iexists _; isplitr; swap; · iexact H3
    ipureintro
    exact harg3.read_unread _
  iexists _; isplitr; swap; · iexact H9
  ipureintro
  rw [View.read_writes_full, View.readAt_full, View.readAt_full, View.readAt_full, hf2, hf3, hf9]

end Cert.KernelIdeal.Hand

end
-- ==== Proof.RunC.lean ====
/- The body at point 16: it computes the coefficients from the sums and serves the kept block. -/
module

public import proofs.«01_k».proof.Proof.Cells

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Point 16: from the sums `a` and the scales `x2`, `x3` the coefficients, and with them and the shifts `x4`, `x5` the output of the kept block `k0`, `k1`. -/
theorem run_kept (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : ¬accum i) (hslv : solve i) (hkept : applyKept i) (hnew : ¬applyNew i)
    (x2 x3 x4 x5 : Vec F S1x2048 .f32) (a : Vec F S8x2048 .f32) (k0 k1 : Vec F S1x64x8x2048 .f32) (E : Set ℕ) (K : PUnit → sProp 𝕄) :
    iprop(owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare a ∗ (∃ d, owns (c : Thread nD τ) arg10 fullShare d) ∗ owns (c : Thread nD τ) arg11 fullShare k0 ∗ owns (c : Thread nD τ) arg12 fullShare k1
      ∗ (iprop(owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outKept k0 k1 (coef a x2 x3) x4 x5) ∗ owns (c : Thread nD τ) arg9 fullShare a ∗ owns (c : Thread nD τ) arg10 fullShare (coef a x2 x3) ∗ owns (c : Thread nD τ) arg11 fullShare k0 ∗ owns (c : Thread nD τ) arg12 fullShare k1) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  simp only [k0_part1_eq_skeleton, k0_part2_eq_skeleton]
  unfold owns
  iintro ⟨⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%f11, %hf11, H11⟩, ⟨%f12, %hf12, H12⟩, Hk⟩
  obtain rfl := harg4.eq_unread hf4; obtain rfl := harg5.eq_unread hf5; obtain rfl := harg6.eq_unread hf6; obtain rfl := harg7.eq_unread hf7; obtain rfl := harg9.eq_unread hf9; obtain rfl := harg11.eq_unread hf11; obtain rfl := harg12.eq_unread hf12
  sl_exec (disch := first | sl_exact hacc | sl_exact hslv | sl_exact hkept | sl_exact hnew)
  sl_step
  iapply Hk
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    rw [read_planes]; unfold run_kept.sl.r_4 run_kept.sl.r_5 run_kept.sl.r_6 run_kept.sl.r_7 run_kept.sl.r_8 run_kept.sl.v22 run_kept.sl.v24 run_kept.sl.v26 run_kept.sl.v28 View.readCov run_kept.sl.H10_4; rw [readAt_rowS _ _ ![0, 0] 0 rfl, readAt_rowS _ _ ![1, 0] 1 rfl, readAt_rowS _ _ ![2, 0] 2 rfl, readAt_rowS _ _ ![3, 0] 3 rfl, read_rows4]; unfold run_kept.sl.r run_kept.sl.r_1 run_kept.sl.r_2 run_kept.sl.r_3; rw [readAt_one, readAt_one, readAt_one, View.readAt_full, View.readAt_full, View.readAt_full, View.readAt_full, hf4, hf5, hf6, hf7, hf9, hf11, hf12]; rfl
  isplitl [H9]
  · iexists _; isplitr; swap; · iexact H9
    ipureintro
    exact harg9.read_unread _
  isplitl [H10]
  · iexists _; isplitr; swap; · iexact H10
    ipureintro
    unfold run_kept.sl.H10_4; rw [read_rows4]; unfold run_kept.sl.r run_kept.sl.r_1 run_kept.sl.r_2 run_kept.sl.r_3; rw [View.readAt_full, readAt_one, readAt_one, hf4, hf5, hf9]; rfl
  isplitl [H11]
  · iexists _; isplitr; swap; · iexact H11
    ipureintro
    exact harg11.read_unread _
  iexists _; isplitr; swap; · iexact H12
  ipureintro
  exact harg12.read_unread _

end Cert.KernelIdeal.Hand

end
-- ==== Proof.RunD.lean ====
/- The body from point 17 on: it serves the block it fetches. -/
module

public import proofs.«01_k».proof.Proof.Cells

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- A point from 17 on: with the coefficients `co` and the shifts `x4`, `x5` the output of the block `x0`, `x1`. -/
theorem run_new (c : Dev nD) (i : grid0.Coords)
    (arg2 : Memref sig .tc .vmem S64x8x2048 .f32) (harg2 : arg2.IsWhole)
    (arg3 : Memref sig .tc .vmem S64x8x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S64x8x2x2048 .f32) (harg8 : arg8.IsWhole)
    (arg9 : Memref sig .tc .vmem S8x2048 .f32) (harg9 : arg9.IsWhole)
    (arg10 : Memref sig .tc .vmem S4x2048 .f32) (harg10 : arg10.IsWhole)
    (arg11 : Memref sig .tc .vmem S1x64x8x2048 .f32) (harg11 : arg11.IsWhole)
    (arg12 : Memref sig .tc .vmem S1x64x8x2048 .f32) (harg12 : arg12.IsWhole)
    (hacc : ¬accum i) (hslv : ¬solve i) (hkept : ¬applyKept i) (hnew : applyNew i)
    (x0 x1 : Vec F S64x8x2048 .f32) (x4 x5 : Vec F S1x2048 .f32) (co : Vec F S4x2048 .f32) (E : Set ℕ) (K : PUnit → sProp 𝕄) :
    iprop(owns (c : Thread nD τ) arg2 fullShare x0 ∗ owns (c : Thread nD τ) arg3 fullShare x1 ∗ owns (c : Thread nD τ) arg6 fullShare x4 ∗ owns (c : Thread nD τ) arg7 fullShare x5 ∗ (∃ d, owns (c : Thread nD τ) arg8 fullShare d) ∗ owns (c : Thread nD τ) arg10 fullShare co
      ∗ (iprop(owns (c : Thread nD τ) arg2 fullShare x0 ∗ owns (c : Thread nD τ) arg3 fullShare x1 ∗ owns (c : Thread nD τ) arg6 fullShare x4 ∗ owns (c : Thread nD τ) arg7 fullShare x5 ∗ owns (c : Thread nD τ) arg8 fullShare (outNew x0 x1 co x4 x5) ∗ owns (c : Thread nD τ) arg10 fullShare co) -∗ K ⟨⟩))
      ⊢ wp frame (wpE (defs₀ (F := F)) Variants.none c none) E (cc0_cln_fused i arg2 harg2 arg3 harg3 arg4 harg4 arg5 harg5 arg6 harg6 arg7 harg7 arg8 harg8 arg9 harg9 arg10 harg10 arg11 harg11 arg12 harg12) K := by
  simp only [cc0_cln_fused_eq_skeleton]; unfold cc0_cln_fused_skel
  simp only [k0_part3_eq_skeleton]
  unfold owns
  iintro ⟨⟨%f2, %hf2, H2⟩, ⟨%f3, %hf3, H3⟩, ⟨%f6, %hf6, H6⟩, ⟨%f7, %hf7, H7⟩, ⟨%d8, %f8, -, H8⟩, ⟨%f10, %hf10, H10⟩, Hk⟩
  obtain rfl := harg2.eq_unread hf2; obtain rfl := harg3.eq_unread hf3; obtain rfl := harg6.eq_unread hf6; obtain rfl := harg7.eq_unread hf7; obtain rfl := harg10.eq_unread hf10
  sl_exec (disch := first | sl_exact hacc | sl_exact hslv | sl_exact hkept | sl_exact hnew)
  sl_step
  iapply Hk
  isplitl [H2]
  · iexists _; isplitr; swap; · iexact H2
    ipureintro
    exact harg2.read_unread _
  isplitl [H3]
  · iexists _; isplitr; swap; · iexact H3
    ipureintro
    exact harg3.read_unread _
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    rw [read_planes]; unfold run_new.sl.r run_new.sl.r_1 run_new.sl.r_2 run_new.sl.r_3 run_new.sl.r_4; rw [readAt_rowS _ _ ![0, 0] 0 rfl, readAt_rowS _ _ ![1, 0] 1 rfl, readAt_rowS _ _ ![2, 0] 2 rfl, readAt_rowS _ _ ![3, 0] 3 rfl, readAt_one, View.readAt_full, View.readAt_full, View.readAt_full, hf2, hf3, hf6, hf7, hf10]; rfl
  iexists _; isplitr; swap; · iexact H10
  ipureintro
  exact harg10.read_unread _

end Cert.KernelIdeal.Hand

end
-- ==== Proof.Body.lean ====
/- The kernel's pipeline: what its scratch buffers hold at every position, the proof that one grid point of the body takes
   what the pipeline hands it to what the next one needs, and the launch. -/
module

public import proofs.«01_k».proof.Proof.RunA
public import proofs.«01_k».proof.Proof.RunB
public import proofs.«01_k».proof.Proof.RunC
public import proofs.«01_k».proof.Proof.RunD
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Window 0's buffer at a point, and that it is a whole one. -/
abbrev buf0 (t : Fin cfg0.N) : Memref sig .tc .vmem S64x8x2048 .f32 := win0_0.stage (cfg0.slots t 0)
abbrev whole0 (t : Fin cfg0.N) : (buf0 t).IsWhole := hstage0_0 ((cfg0.slots t 0).cast nbuf0_0)
/-- Window 1's buffer at a point, and that it is a whole one. -/
abbrev buf1 (t : Fin cfg0.N) : Memref sig .tc .vmem S64x8x2048 .f32 := win0_1.stage (cfg0.slots t 1)
abbrev whole1 (t : Fin cfg0.N) : (buf1 t).IsWhole := hstage0_1 ((cfg0.slots t 1).cast nbuf0_1)
/-- Window 2's buffer at a point, and that it is a whole one. -/
abbrev buf2 (t : Fin cfg0.N) : Memref sig .tc .vmem S1x2048 .f32 := win0_2.stage (cfg0.slots t 2)
abbrev whole2 (t : Fin cfg0.N) : (buf2 t).IsWhole := hstage0_2 ((cfg0.slots t 2).cast nbuf0_2)
/-- Window 3's buffer at a point, and that it is a whole one. -/
abbrev buf3 (t : Fin cfg0.N) : Memref sig .tc .vmem S1x2048 .f32 := win0_3.stage (cfg0.slots t 3)
abbrev whole3 (t : Fin cfg0.N) : (buf3 t).IsWhole := hstage0_3 ((cfg0.slots t 3).cast nbuf0_3)
/-- Window 4's buffer at a point, and that it is a whole one. -/
abbrev buf4 (t : Fin cfg0.N) : Memref sig .tc .vmem S1x2048 .f32 := win0_4.stage (cfg0.slots t 4)
abbrev whole4 (t : Fin cfg0.N) : (buf4 t).IsWhole := hstage0_4 ((cfg0.slots t 4).cast nbuf0_4)
/-- Window 5's buffer at a point, and that it is a whole one. -/
abbrev buf5 (t : Fin cfg0.N) : Memref sig .tc .vmem S1x2048 .f32 := win0_5.stage (cfg0.slots t 5)
abbrev whole5 (t : Fin cfg0.N) : (buf5 t).IsWhole := hstage0_5 ((cfg0.slots t 5).cast nbuf0_5)
/-- Window 6's buffer at a point, and that it is a whole one. -/
abbrev buf6 (t : Fin cfg0.N) : Memref sig .tc .vmem S64x8x2x2048 .f32 := win0_6.stage (cfg0.slots t 6)
abbrev whole6 (t : Fin cfg0.N) : (buf6 t).IsWhole := hstage0_6 ((cfg0.slots t 6).cast nbuf0_6)
/-- Scratch buffer 0. -/
abbrev scr0 : Memref sig .tc .vmem S8x2048 .f32 := Memref.whole cc0_scratch0
/-- Scratch buffer 1. -/
abbrev scr1 : Memref sig .tc .vmem S4x2048 .f32 := Memref.whole cc0_scratch1
/-- Scratch buffer 2. -/
abbrev scr2 : Memref sig .tc .vmem S1x64x8x2048 .f32 := Memref.whole cc0_scratch2
/-- Scratch buffer 3. -/
abbrev scr3 : Memref sig .tc .vmem S1x64x8x2048 .f32 := Memref.whole cc0_scratch3

/-- The scratch buffers and the generator's register, each at something: what the launch hands the region. -/
theorem rest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The output window is left alone at the positions below 16. -/
theorem idle_iff : ∀ t : Fin grid0.N, cfg0.idle 6 (grid0.coords t) = true ↔ t.val < 16 := by decide +kernel
/-- The output window is written back from position 16 on. -/
theorem flush_iff : ∀ t : Fin cfg0.N, (cfg0.win 6).flush t = true ↔ 16 ≤ t.val := by
  intro t
  have h : ∀ t : Fin grid0.N, win0_6.flushF t = true ↔ 16 ≤ t.val := by decide +kernel
  have := h t
  rwa [← Pipeline.Window.flush_eq_flushF] at this

/-- The grid's point at a position. -/
def pt (n : ℕ) : Fin cfg0.N := ⟨n % 32, Nat.lt_of_lt_of_eq (Nat.mod_lt _ (by norm_num)) (show cfg0.N = 32 from N_0).symm⟩

theorem pt_val (t : Fin cfg0.N) : pt t.val = t :=
  Fin.ext (Nat.mod_eq_of_lt (lt32 t))

/-- The real and the imaginary block a point fetches. -/
def xr (c : Dev nD) (t : Fin cfg0.N) : Vec F S64x8x2048 .f32 := iblk m c 0 t
def xi (c : Dev nD) (t : Fin cfg0.N) : Vec F S64x8x2048 .f32 := iblk m c 1 t

/-- What the sums hold after the point at position `n` of the first pass. -/
def acc (c : Dev nD) : ℕ → Vec F S8x2048 .f32
  | 0 => k0_pay2 (xr m c (pt 0)) (xi m c (pt 0))
  | n + 1 => k0_pay3 (xr m c (pt (n + 1))) (xi m c (pt (n + 1))) (acc c n)

/-- The kept block, real and imaginary. -/
def kept0 (c : Dev nD) : Vec F S1x64x8x2048 .f32 := k0_pay4 (xr m c (pt 0))
def kept1 (c : Dev nD) : Vec F S1x64x8x2048 .f32 := k0_pay5 (xi m c (pt 0))
/-- The coefficient rows. -/
def coefs (c : Dev nD) : Vec F S4x2048 .f32 := coef (acc m c 15) (iblk m c 2 (pt 16)) (iblk m c 3 (pt 16))
/-- What a point of the second pass leaves in the output's buffer. -/
def blockOut (c : Dev nD) (t : Fin cfg0.N) : Vec F S64x8x2x2048 .f32 :=
  if t.val = 16 then outKept (kept0 m c) (kept1 m c) (coefs m c) (iblk m c 4 t) (iblk m c 5 t)
  else outNew (xr m c t) (xi m c t) (coefs m c) (iblk m c 4 t) (iblk m c 5 t)

/-- The coefficient scratch after position `n`: named from position 16 on. -/
def coefAt (c : Dev nD) (n : ℕ) : sProp 𝕄 :=
  if 16 ≤ n then owns (c : Thread nD τ) scr1 fullShare (coefs m c) else iprop(∃ d, owns (c : Thread nD τ) scr1 fullShare d)

theorem coefAt_named (c : Dev nD) (n : ℕ) (h : 16 ≤ n) : coefAt m c n = owns (c : Thread nD τ) scr1 fullShare (coefs m c) := if_pos h
theorem coefAt_any (c : Dev nD) (n : ℕ) (h : n < 16) : coefAt m c n = iprop(∃ d, owns (c : Thread nD τ) scr1 fullShare d) := if_neg (by omega)

/-- What the scratch buffers hold before position `n`: anything before the first; afterwards the sums so far, the
    coefficients once they are computed, and the kept block. -/
def Inv (c : Dev nD) : ℕ → sProp 𝕄
  | 0 => Pipeline.ΦA spec0 c
  | n + 1 => iprop(iprop(owns (c : Thread nD τ) scr0 fullShare (acc m c (min n 15)) ∗ coefAt m c n ∗ owns (c : Thread nD τ) scr2 fullShare (kept0 m c) ∗ owns (c : Thread nD τ) scr3 fullShare (kept1 m c)) ∗ (∃ r, prngReg c r))

/-- Before the first position. -/
theorem Inv_zero (c : Dev nD) : Inv m c 0 = Pipeline.ΦA spec0 c := rfl
/-- Before a position that is not the first. -/
theorem Inv_succ (c : Dev nD) (n : ℕ) : Inv m c (n + 1) = iprop(iprop(owns (c : Thread nD τ) scr0 fullShare (acc m c (min n 15)) ∗ coefAt m c n ∗ owns (c : Thread nD τ) scr2 fullShare (kept0 m c) ∗ owns (c : Thread nD τ) scr3 fullShare (kept1 m c)) ∗ (∃ r, prngReg c r)) := rfl

/-- The pipeline's proof data: the arrays as the region finds them, every input's buffer left as it is, the output's block
    at `blockOut`, the scratch buffers as `Inv` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut m c t
  Φ t := Inv m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv m c t.val := by
  dsimp only [dats]; rfl
theorem Phi_succ (c : Dev nD) (t : Fin cfg0.N) : (dats m 0 c).Φ t.succ = Inv m c (t.val + 1) := by
  dsimp only [dats]; rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = blockOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- An input window is left at its block. -/
theorem leaves0 (c : Dev nD) (t : Fin cfg0.N) :
    (dats m 0 c).leavesExact 0 t = owns (c : Thread nD τ) (buf0 t) fullShare (iblk m c 0 t) := by
  rw [← after0 m c t]
theorem leaves1 (c : Dev nD) (t : Fin cfg0.N) :
    (dats m 0 c).leavesExact 1 t = owns (c : Thread nD τ) (buf1 t) fullShare (iblk m c 1 t) := by
  rw [← after1 m c t]
theorem leaves2 (c : Dev nD) (t : Fin cfg0.N) :
    (dats m 0 c).leavesExact 2 t = owns (c : Thread nD τ) (buf2 t) fullShare (iblk m c 2 t) := by
  rw [← after2 m c t]
theorem leaves3 (c : Dev nD) (t : Fin cfg0.N) :
    (dats m 0 c).leavesExact 3 t = owns (c : Thread nD τ) (buf3 t) fullShare (iblk m c 3 t) := by
  rw [← after3 m c t]
theorem leaves4 (c : Dev nD) (t : Fin cfg0.N) :
    (dats m 0 c).leavesExact 4 t = owns (c : Thread nD τ) (buf4 t) fullShare (iblk m c 4 t) := by
  rw [← after4 m c t]
theorem leaves5 (c : Dev nD) (t : Fin cfg0.N) :
    (dats m 0 c).leavesExact 5 t = owns (c : Thread nD τ) (buf5 t) fullShare (iblk m c 5 t) := by
  rw [← after5 m c t]
/-- From position 16 on the output's buffer is left at `blockOut`, -/
theorem leaves6_live (c : Dev nD) (t : Fin cfg0.N) (h : 16 ≤ t.val) :
    (dats m 0 c).leavesExact 6 t = owns (c : Thread nD τ) (buf6 t) fullShare (blockOut m c t) := by
  rw [← after6 m c t]; unfold Dat.leavesExact
  rw [show cfg0.idle 6 (grid0.coords t) = false from by
    rw [Bool.eq_false_iff]; intro hi; exact absurd ((idle_iff t).mp hi) (by omega)]
/-- below it as it was found. -/
theorem leaves6_idle (c : Dev nD) (t : Fin cfg0.N) (h : t.val < 16) :
    (dats m 0 c).leavesExact 6 t = iprop(∃ d, owns (c : Thread nD τ) (buf6 t) fullShare ((dats m 0 c).before 6 t d)) :=
  (dats m 0 c).leavesExact_idle 6 t ((idle_iff t).mpr h) (by
    rw [Bool.eq_false_iff]; intro hf; exact absurd ((flush_iff t).mp hf) (by omega))

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at the first point. -/
theorem body_first (c : Dev nD) (t : Fin cfg0.N) (ht : t.val = 0) :
    bodyPre m c t ⊢ wp frame (wpE (defs₀ (F := F)) Variants.none c none) Set.univ (bodyAt0 t) (fun _ => bodyPost m c t) := by
  have hN := lt32 t
  unfold bodyPre bodyPost bodyAt0
  simp only [before0, before1, before2, before3, before4, before5]
  rw [show (dats m 0 c).owesAt () t.succ = (dats m 0 c).owesAt () t.castSucc from rfl, Phi_castSucc, Phi_succ]
  rw [leaves0, leaves1, leaves2, leaves3, leaves4, leaves5]
  have ht0 : t = pt 0 := (pt_val t).symm.trans (congrArg pt ht)
  have hv : acc m c (min t.val 15) = k0_pay2 (iblk m c 0 t) (iblk m c 1 t) := by rw [ht]; subst ht0; rfl
  have h0 : kept0 m c = k0_pay4 (iblk m c 0 t) := by subst ht0; rfl
  have h1 : kept1 m c = k0_pay5 (iblk m c 1 t) := by subst ht0; rfl
  rw [leaves6_idle m c t (by omega), Inv_succ, hv, h0, h1, coefAt_any m c _ (by omega), ht, Inv_zero, rest_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) ((accum_iff t).mpr (by omega)) ((first_iff t).mpr (by omega)) (fun h => absurd ((later_iff t).mp h) (by omega)) (fun h => absurd ((solve_iff t).mp h) (by omega)) (fun h => absurd ((applyKept_iff t).mp h) (by omega)) (fun h => absurd ((applyNew_iff t).mp h) (by omega)) (iblk m c 0 t) (iblk m c 1 t) Set.univ _)
  isplitl [H0]; · iexact H0
  isplitl [H1]; · iexact H1
  isplitl [HS0]; · iexact HS0
  isplitl [HS2]; · iexact HS2
  isplitl [HS3]; · iexact HS3
  iintro ⟨H0, H1, HS0, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The body at a later point of the first pass. -/
theorem body_later (c : Dev nD) (t : Fin cfg0.N) (ht : 1 ≤ t.val ∧ t.val < 16) :
    bodyPre m c t ⊢ wp frame (wpE (defs₀ (F := F)) Variants.none c none) Set.univ (bodyAt0 t) (fun _ => bodyPost m c t) := by
  have hN := lt32 t
  unfold bodyPre bodyPost bodyAt0
  simp only [before0, before1, before2, before3, before4, before5]
  rw [show (dats m 0 c).owesAt () t.succ = (dats m 0 c).owesAt () t.castSucc from rfl, Phi_castSucc, Phi_succ]
  rw [leaves0, leaves1, leaves2, leaves3, leaves4, leaves5]
  obtain ⟨n, hn⟩ : ∃ n, t.val = n + 1 := ⟨t.val - 1, by omega⟩
  have hv : acc m c (min t.val 15) = k0_pay3 (iblk m c 0 t) (iblk m c 1 t) (acc m c (min n 15)) := by
    rw [show min t.val 15 = n + 1 by omega, show min n 15 = n by omega]
    show k0_pay3 (xr m c (pt (n + 1))) (xi m c (pt (n + 1))) (acc m c n) = _
    rw [← hn, pt_val]; rfl
  rw [leaves6_idle m c t (by omega), Inv_succ, hv, coefAt_any m c _ (by omega), hn, Inv_succ, coefAt_any m c _ (by omega)]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run_later c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) ((accum_iff t).mpr (by omega)) (fun h => absurd ((first_iff t).mp h) (by omega)) ((later_iff t).mpr (by omega)) (fun h => absurd ((solve_iff t).mp h) (by omega)) (fun h => absurd ((applyKept_iff t).mp h) (by omega)) (fun h => absurd ((applyNew_iff t).mp h) (by omega)) (iblk m c 0 t) (iblk m c 1 t) _ Set.univ _)
  isplitl [H0]; · iexact H0
  isplitl [H1]; · iexact H1
  isplitl [HS0]; · iexact HS0
  iintro ⟨H0, H1, HS0⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The body at the point that computes the coefficients. -/
theorem body_kept (c : Dev nD) (t : Fin cfg0.N) (ht : t.val = 16) :
    bodyPre m c t ⊢ wp frame (wpE (defs₀ (F := F)) Variants.none c none) Set.univ (bodyAt0 t) (fun _ => bodyPost m c t) := by
  have hN := lt32 t
  unfold bodyPre bodyPost bodyAt0
  simp only [before0, before1, before2, before3, before4, before5]
  rw [show (dats m 0 c).owesAt () t.succ = (dats m 0 c).owesAt () t.castSucc from rfl, Phi_castSucc, Phi_succ]
  rw [leaves0, leaves1, leaves2, leaves3, leaves4, leaves5]
  have htp : t = pt 16 := (pt_val t).symm.trans (congrArg pt ht)
  have hb : blockOut m c t = outKept (kept0 m c) (kept1 m c) (coef (acc m c 15) (iblk m c 2 t) (iblk m c 3 t)) (iblk m c 4 t) (iblk m c 5 t) := by
    unfold blockOut; rw [if_pos ht]; subst htp; rfl
  have hc : coefs m c = coef (acc m c 15) (iblk m c 2 t) (iblk m c 3 t) := by subst htp; rfl
  rw [leaves6_live m c t (by omega), Inv_succ, coefAt_named m c _ (by omega), hb, hc, ht, Inv_succ, coefAt_any m c _ (by omega)]
  rw [show min 15 15 = 15 from rfl, show min 16 15 = 15 from rfl]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run_kept c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) (fun h => absurd ((accum_iff t).mp h) (by omega)) ((solve_iff t).mpr (by omega)) ((applyKept_iff t).mpr (by omega)) (fun h => absurd ((applyNew_iff t).mp h) (by omega)) (iblk m c 2 t) (iblk m c 3 t) (iblk m c 4 t) (iblk m c 5 t) (acc m c 15) (kept0 m c) (kept1 m c) Set.univ _)
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  iintro ⟨H2, H3, H4, H5, H6, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- The body at a later point of the second pass. -/
theorem body_new (c : Dev nD) (t : Fin cfg0.N) (ht : 17 ≤ t.val) :
    bodyPre m c t ⊢ wp frame (wpE (defs₀ (F := F)) Variants.none c none) Set.univ (bodyAt0 t) (fun _ => bodyPost m c t) := by
  have hN := lt32 t
  unfold bodyPre bodyPost bodyAt0
  simp only [before0, before1, before2, before3, before4, before5]
  rw [show (dats m 0 c).owesAt () t.succ = (dats m 0 c).owesAt () t.castSucc from rfl, Phi_castSucc, Phi_succ]
  rw [leaves0, leaves1, leaves2, leaves3, leaves4, leaves5]
  obtain ⟨n, hn⟩ : ∃ n, t.val = n + 1 := ⟨t.val - 1, by omega⟩
  have hb : blockOut m c t = outNew (iblk m c 0 t) (iblk m c 1 t) (coefs m c) (iblk m c 4 t) (iblk m c 5 t) := by
    unfold blockOut; rw [if_neg (by omega)]; rfl
  rw [leaves6_live m c t (by omega), Inv_succ, coefAt_named m c _ (by omega), hb, hn, Inv_succ, coefAt_named m c _ (by omega)]
  rw [show min n 15 = 15 by omega, show min (n + 1) 15 = 15 by omega]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply (run_new c (grid0.coords t) (buf0 t) (whole0 t) (buf1 t) (whole1 t) (buf2 t) (whole2 t) (buf3 t) (whole3 t) (buf4 t) (whole4 t) (buf5 t) (whole5 t) (buf6 t) (whole6 t) scr0 (Memref.isWhole_whole _) scr1 (Memref.isWhole_whole _) scr2 (Memref.isWhole_whole _) scr3 (Memref.isWhole_whole _) (fun h => absurd ((accum_iff t).mp h) (by omega)) (fun h => absurd ((solve_iff t).mp h) (by omega)) (fun h => absurd ((applyKept_iff t).mp h) (by omega)) ((applyNew_iff t).mpr (by omega)) (iblk m c 0 t) (iblk m c 1 t) (iblk m c 4 t) (iblk m c 5 t) (coefs m c) Set.univ _)
  isplitl [H0]; · iexact H0
  isplitl [H1]; · iexact H1
  isplitl [H4]; · iexact H4
  isplitl [H5]; · iexact H5
  isplitl [H6]; · iexists _; iexact H6
  isplitl [HS1]; · iexact HS1
  iintro ⟨H0, H1, H4, H5, H6, HS1⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem body_point (c : Dev nD) (t : Fin cfg0.N) :
    bodyPre m c t ⊢ wp frame (wpE (defs₀ (F := F)) Variants.none c none) Set.univ (bodyAt0 t) (fun _ => bodyPost m c t) := by
  rcases Nat.lt_or_ge t.val 1 with h | h
  · exact body_first m c t (by omega)
  rcases Nat.lt_or_ge t.val 16 with h' | h'
  · exact body_later m c t ⟨h, h'⟩
  rcases Nat.lt_or_ge t.val 17 with h'' | h''
  · exact body_kept m c t (by omega)
  · exact body_new m c t h''

theorem row_of_table (t : Fin cfg0.N) :
    defs₀ (F := F) .tc cfg0.body (cfg0.bodyArgs t (cfg0.slots t)) = bodyAt0 t := by
  unfold defs₀; rw [Defs.onTc_tc]

/-- The pipeline's condition on the body, at every point. -/
theorem body_all (c : Dev nD) : BodyObligation (dats (F := F) m 0 c) (defs₀ (F := F)) Variants.none () Set.univ := fun t => by
  rw [bigSep_W0, bigSep_W0, row_of_table]
  exact triple_restated (body_point m c t) rfl .rfl fun _ => .rfl

/-- What the launch hands over is what the first point needs. -/
theorem enter (c : Dev nD) : Pipeline.ΦA spec0 c ⊢ (dats m 0 c).Φ 0 := by
  rw [show (dats m 0 c).Φ 0 = Inv m c 0 from rfl, Inv_zero]

/-- What the last point leaves is what the launch takes back. -/
theorem leave (c : Dev nD) : (dats m 0 c).Φ (Fin.last cfg0.N) ⊢ Pipeline.ΦA spec0 c := by
  have e : (dats m 0 c).Φ (Fin.last cfg0.N) = Inv m c (31 + 1) := by
    show Inv m c (Fin.last cfg0.N).val = _
    rw [Fin.val_last, show cfg0.N = 32 from N_0]
  rw [e, Inv_succ, coefAt_named m c _ (by omega), rest_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
set_option maxHeartbeats 1600000 in
/-- The launch: every execution ends with every array of the pipeline at what the write-backs leave in it, every other
    buffer at what the host lines after the region leave, and every counter at zero. -/
theorem launched : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_all m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m) (Q' := _) (hQ' := fun _ h => h)

/-- The frame: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.KernelIdeal.Hand

end
-- ==== Proof.Consts.lean ====
/- The float constants of the two programs as the real numbers they denote. -/
module

public import Idealize.ShloMosaic.PureOps.Ideal

@[expose] public section

noncomputable section

namespace Whiten.Consts

open Idealize.ShloMosaic

/-- The pattern of the batch size denotes the real `64`. -/
theorem ofBits_64 : Ideal.ofBits .f32 0x42800000#32 = ((64 : ℝ) : EReal) := by
  simp [Ideal.ofBits, Ideal.ieee, -EReal.coe_mul, -EReal.coe_neg, -EReal.coe_one]; norm_num

/-- The pattern of one less than the number of samples denotes the real `8191`. -/
theorem ofBits_8191 : Ideal.ofBits .f32 0x45FFF800#32 = ((8191 : ℝ) : EReal) := by
  simp [Ideal.ofBits, Ideal.ieee, -EReal.coe_mul, -EReal.coe_neg, -EReal.coe_one]; norm_num

/-- The pattern of two denotes the real `2`. -/
theorem ofBits_2 : Ideal.ofBits .f32 0x40000000#32 = ((2 : ℝ) : EReal) := by
  simp [Ideal.ofBits, Ideal.ieee, -EReal.coe_mul, -EReal.coe_neg, -EReal.coe_one]; norm_num

/-- The pattern of minus one denotes the real `-1`. -/
theorem ofBits_neg_one : Ideal.ofBits .f32 0xBF800000#32 = ((-1 : ℝ) : EReal) := by
  simp [Ideal.ofBits, Ideal.ieee, -EReal.coe_mul, -EReal.coe_neg, -EReal.coe_one]; norm_num

/-- The pattern of the number of features denotes the real `2048`. -/
theorem ofBits_2048 : Ideal.ofBits .f32 0x45000000#32 = ((2048 : ℝ) : EReal) := by
  simp [Ideal.ofBits, Ideal.ieee, -EReal.coe_mul, -EReal.coe_neg, -EReal.coe_one]; norm_num

/-- The pattern of the reciprocal of the batch size denotes the real `1 / 64`. -/
theorem ofBits_inv_64 : Ideal.ofBits .f32 0x3C800000#32 = ((1 / 64 : ℝ) : EReal) := by
  simp [Ideal.ofBits, Ideal.ieee, -EReal.coe_mul, -EReal.coe_neg, -EReal.coe_one]; norm_num

/-- The pattern of the reciprocal of the number of features denotes the real `1 / 2048`. -/
theorem ofBits_inv_2048 : Ideal.ofBits .f32 0x3A000000#32 = ((1 / 2048 : ℝ) : EReal) := by
  simp [Ideal.ofBits, Ideal.ieee, -EReal.coe_mul, -EReal.coe_neg, -EReal.coe_one]; norm_num

/-- The pattern of the number added on the diagonal of the covariance denotes the real `13743895 / 137438953472`. -/
theorem ofBits_eps : Ideal.ofBits .f32 0x38D1B717#32 = ((13743895 / 137438953472 : ℝ) : EReal) := by
  simp [Ideal.ofBits, Ideal.ieee, -EReal.coe_mul, -EReal.coe_neg, -EReal.coe_one]; norm_num

/-- The pattern of one denotes the real `1`. -/
theorem ofBits_one : Ideal.ofBits .f32 0x3F800000#32 = ((1 : ℝ) : EReal) := by
  simp [Ideal.ofBits, Ideal.ieee, -EReal.coe_mul, -EReal.coe_neg, -EReal.coe_one]; norm_num

/-- The pattern of infinity denotes the top element. -/
theorem ofBits_inf : Ideal.ofBits .f32 0x7F800000#32 = ⊤ := by
  simp [Ideal.ofBits, Ideal.ieee]

end Whiten.Consts

end

end
-- ==== Proof.Sums.lean ====
/- Sums over the batch and the length of an array of three axes, and the splitting of a sum over 128 rows into 16 blocks
   of 8. -/
module

public import Idealize.ShloMosaic.Lib.Pointwise

@[expose] public section

namespace Idealize.ShloMosaic.Hand

open Idealize.ShloMosaic

/-- Of an array of three axes summed over its first two, the terms of result `j` are the entries whose last coordinate
is `j`'s. -/
theorem drop01 {n0 n1 n2 : ℕ} (h : (⟨3, ![n0, n1, n2]⟩ : Shape).ReducesTo [0, 1] ⟨1, ![n2]⟩)
    (j : (⟨1, ![n2]⟩ : Shape).Idx) (i : (⟨3, ![n0, n1, n2]⟩ : Shape).Idx) :
    h.drop i = j ↔ ∃ k : Fin n0 × Fin n1, ix3 k.1 k.2 (j 0) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The sum of the terms of one result of that reduction is a double sum. -/
theorem sum_drop01 {n0 n1 n2 : ℕ} (h : (⟨3, ![n0, n1, n2]⟩ : Shape).ReducesTo [0, 1] ⟨1, ![n2]⟩)
    (j : (⟨1, ![n2]⟩ : Shape).Idx) (v : (⟨3, ![n0, n1, n2]⟩ : Shape).Idx → EReal) :
    ∑ i ∈ Finset.univ.filter (fun i => h.drop i = j), v i = ∑ b : Fin n0, ∑ l : Fin n1, v (ix3 b l (j 0)) := by
  have hg : Function.Injective fun k : Fin n0 × Fin n1 => ix3 (n0 := n0) (n1 := n1) (n2 := n2) k.1 k.2 (j 0) :=
    fun k k' e => Prod.ext (congrFun e 0) (congrFun e 1)
  have himg : Finset.univ.filter (fun i => h.drop i = j) = Finset.univ.map ⟨_, hg⟩ := by
    ext i
    simp only [Finset.mem_filter, Finset.mem_univ, true_and, Finset.mem_map, Function.Embedding.coeFn_mk, drop01 h j]
    exact Iff.rfl
  rw [himg, Finset.sum_map]
  exact Fintype.sum_prod_type _

/-- The kernel's reduction of the first two of three axes, read at a result index. -/
theorem reduceAdd01 {n0 n1 n2 : ℕ} (h : (⟨3, ![n0, n1, n2]⟩ : Shape).Reduces [0, 1] ⟨1, ![n2]⟩)
    (v : (⟨3, ![n0, n1, n2]⟩ : Shape).Idx → EReal) (j : (⟨1, ![n2]⟩ : Shape).Idx) :
    Ideal.reduceAdd h v j = ∑ b : Fin n0, ∑ l : Fin n1, v (ix3 b l (j 0)) :=
  sum_drop01 h.reducesTo j v

/-- The reference's reduction of the first two of three axes, read at a result index. -/
theorem hostReduceAdd01 {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ b : Fin n0, ∑ l : Fin n1, v (ix3 b l (j 0)) := by
  show init + _ = _
  rw [sum_drop01 h j v]

/-- A finite sum of reals, read as extended reals, is the sum of the reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals with a divisor that is not zero, read as extended reals. -/
theorem coe_div (x y : ℝ) (hy : y ≠ 0) : Ideal.div (x : EReal) (y : EReal) = ((x / y : ℝ) : EReal) := by
  have h : (y : EReal) ≠ 0 := by exact_mod_cast hy
  rw [Ideal.div, if_neg h, div_eq_mul_inv, EReal.coe_mul, EReal.coe_inv]

/-- The root of a real that is not negative, read as an extended real. -/
theorem coe_sqrt (x : ℝ) (hx : 0 ≤ x) : Ideal.sqrt (x : EReal) = ((Real.sqrt x : ℝ) : EReal) := by
  rw [Ideal.sqrt_coe, if_neg (not_lt.2 hx)]

/-- The reciprocal root of a positive real, read as an extended real. -/
theorem coe_rsqrt (x : ℝ) (hx : 0 < x) : Ideal.rsqrt (x : EReal) = (((Real.sqrt x)⁻¹ : ℝ) : EReal) := by
  rw [Ideal.rsqrt_coe, if_neg (not_lt.2 hx.le), if_neg hx.ne']

end Idealize.ShloMosaic.Hand

end
-- ==== Proof.Math.lean ====
/- The real mathematics of the two programs. The kernel whitens with the inverse root of a two by two covariance in closed
   form; the reference diagonalises the covariance by a rotation. This file shows that both give the same matrix, and that
   the covariance the kernel gets from sums of products is the covariance of the centred values. -/
module

public import Mathlib.Analysis.SpecialFunctions.Pow.Real
public import Mathlib.Algebra.Order.BigOperators.Ring.Finset
public import Mathlib.Tactic.FieldSimp
public import Mathlib.Tactic.LinearCombination

@[expose] public section

noncomputable section

namespace Whiten

open Real

/-! ### The covariance -/

/-- The mean over the batch at one position. -/
def mean (x : Fin 64 → Fin 128 → ℝ) (l : Fin 128) : ℝ := (∑ b, x b l) / 64

/-- The sum over batch and length of the products of two centred arrays. -/
def coprod (x y : Fin 64 → Fin 128 → ℝ) : ℝ := ∑ b, ∑ l, (x b l - mean x l) * (y b l - mean y l)

/-- The sum of centred products is the sum of products less the products of the batch sums over the batch size. -/
theorem coprod_eq (x y : Fin 64 → Fin 128 → ℝ) :
    coprod x y = (∑ b, ∑ l, x b l * y b l) - (∑ l, (∑ b, x b l) * (∑ b, y b l)) * (1 / 64) := by
  unfold coprod
  rw [Finset.sum_comm, Finset.sum_comm (f := fun b l => x b l * y b l), Finset.sum_mul, ← Finset.sum_sub_distrib]
  refine Finset.sum_congr rfl fun l _ => ?_
  have h : ∀ b, (x b l - mean x l) * (y b l - mean y l)
      = x b l * y b l - mean y l * x b l - mean x l * y b l + mean x l * mean y l := fun b => by ring
  simp only [h, Finset.sum_add_distrib, Finset.sum_sub_distrib, ← Finset.mul_sum, Finset.sum_const, Finset.card_univ,
    Fintype.card_fin, nsmul_eq_mul]
  unfold mean
  push_cast
  ring

/-- The centred square sum is not negative. -/
theorem coprod_self_nonneg (x : Fin 64 → Fin 128 → ℝ) : 0 ≤ coprod x x :=
  Finset.sum_nonneg fun _ _ => Finset.sum_nonneg fun _ _ => mul_self_nonneg _

/-- The Cauchy–Schwarz inequality for the centred sums. -/
theorem coprod_sq_le (x y : Fin 64 → Fin 128 → ℝ) : coprod x y ^ 2 ≤ coprod x x * coprod y y := by
  have h := Finset.sum_mul_sq_le_sq_mul_sq (Finset.univ : Finset (Fin 64 × Fin 128))
    (fun k => x k.1 k.2 - mean x k.2) (fun k => y k.1 k.2 - mean y k.2)
  simp only [Fintype.sum_prod_type, sq] at h
  simp only [coprod, sq]
  exact h

/-- The covariance of two arrays. -/
def cov (x y : Fin 64 → Fin 128 → ℝ) : ℝ := coprod x y / 8191

/-- The variance is not negative. -/
theorem cov_self_nonneg (x : Fin 64 → Fin 128 → ℝ) : 0 ≤ cov x x := div_nonneg (coprod_self_nonneg x) (by norm_num)

/-- The covariance matrix with a positive number added on the diagonal has a positive determinant. -/
theorem det_pos (x y : Fin 64 → Fin 128 → ℝ) {e : ℝ} (he : 0 < e) :
    0 < (cov x x + e) * (cov y y + e) - cov x y * cov x y := by
  have h : cov x y * cov x y ≤ cov x x * cov y y := by
    have := coprod_sq_le x y
    simp only [cov]
    rw [div_mul_div_comm, div_mul_div_comm]
    exact div_le_div_of_nonneg_right (by nlinarith [this]) (by norm_num)
  have hx := cov_self_nonneg x
  have hy := cov_self_nonneg y
  nlinarith [mul_nonneg hx he.le, mul_nonneg hy he.le, mul_pos he he]

/-! ### The closed form of the inverse root -/

/-- The factor common to the entries of the inverse root. -/
def scale (a b c : ℝ) : ℝ := (√((a * c - b * b) * ((a + c) + 2 * √(a * c - b * b))))⁻¹

/-- The first diagonal entry of the inverse root of the matrix with rows `(a, b)` and `(b, c)`. -/
def wrr (a b c : ℝ) : ℝ := (c + √(a * c - b * b)) * scale a b c

/-- The second diagonal entry. -/
def wii (a b c : ℝ) : ℝ := (a + √(a * c - b * b)) * scale a b c

/-- The entry off the diagonal. -/
def wri (a b c : ℝ) : ℝ := (0 - b) * scale a b c

/-! ### The rotation -/

/-- The quotient the rotation's tangent is made of; where `b` is zero the divisor is two. -/
def tau (a b c : ℝ) : ℝ := (c - a) / (2 * if b = 0 then 1 else b)

/-- The tangent of the rotation. -/
def tang (a b c : ℝ) : ℝ :=
  if b = 0 then 0
  else if 0 ≤ tau a b c then 1 / (tau a b c + √(1 + tau a b c * tau a b c))
  else -1 / (√(1 + tau a b c * tau a b c) - tau a b c)

/-- A root of one plus a square is above the number. -/
theorem lt_root (u : ℝ) : u < √(1 + u * u) := Real.lt_sqrt_of_sq_lt (by nlinarith)

/-- And above its negative. -/
theorem neg_lt_root (u : ℝ) : -u < √(1 + u * u) := Real.lt_sqrt_of_sq_lt (by nlinarith)

/-- The tangent solves the quadratic equation under which the rotation makes the matrix diagonal. -/
theorem tang_root (a b c : ℝ) : b * (tang a b c) ^ 2 + (c - a) * tang a b c - b = 0 := by
  unfold tang
  by_cases hb : b = 0
  · simp [hb]
  · rw [if_neg hb]
    have htau : c - a = 2 * b * tau a b c := by
      unfold tau; rw [if_neg hb]; field_simp
    rw [htau]
    generalize tau a b c = u
    have h1 := lt_root u
    have h2 := neg_lt_root u
    have hs : √(1 + u * u) ^ 2 = 1 + u * u := Real.sq_sqrt (by nlinarith [mul_self_nonneg u])
    generalize √(1 + u * u) = r at *
    by_cases hu : 0 ≤ u
    · rw [if_pos hu]
      have h : u + r ≠ 0 := by linarith
      field_simp
      linear_combination (-b) * hs
    · rw [if_neg hu]
      have h : r - u ≠ 0 := by linarith
      field_simp
      linear_combination (-b) * hs

/-- What a solution of that equation gives: the two diagonal values are positive. -/
theorem diag_pos {a b c t : ℝ} (ha : 0 < a) (hc : 0 < c) (hd : 0 < a * c - b * b) (ht : b * t ^ 2 + (c - a) * t - b = 0) :
    0 < a - t * b ∧ 0 < c + t * b := by
  have hp : 0 < (a - t * b) * (c + t * b) := by
    have : (a - t * b) * (c + t * b) = a * c - b * b := by linear_combination (-b) * ht
    rw [this]; exact hd
  rcases (mul_pos_iff.1 hp) with h | h
  · exact h
  · linarith [h.1, h.2]

/-- The rotation's matrix is the closed form: with `t` a solution, `co` the cosine and `si` the sine. -/
theorem rotation {a b c t : ℝ} (ha : 0 < a) (hc : 0 < c) (hd : 0 < a * c - b * b) (ht : b * t ^ 2 + (c - a) * t - b = 0) :
    let co := 1 / √(1 + t * t)
    let si := t * co
    let r1 := (√(a - t * b))⁻¹
    let r2 := (√(c + t * b))⁻¹
    co * r1 * co + si * r2 * si = wrr a b c ∧ si * r2 * co - co * r1 * si = wri a b c
      ∧ si * r1 * si + co * r2 * co = wii a b c := by
  obtain ⟨h1, h2⟩ := diag_pos ha hc hd ht
  intro co si r1 r2
  have hp : 0 < √(a - t * b) := Real.sqrt_pos.2 h1
  have hq : 0 < √(c + t * b) := Real.sqrt_pos.2 h2
  have hpp : √(a - t * b) ^ 2 = a - t * b := Real.sq_sqrt h1.le
  have hqq : √(c + t * b) ^ 2 = c + t * b := Real.sq_sqrt h2.le
  have hco : co * co = 1 / (1 + t * t) := by
    have : √(1 + t * t) * √(1 + t * t) = 1 + t * t := Real.mul_self_sqrt (by nlinarith [mul_self_nonneg t])
    simp only [co]; rw [div_mul_div_comm, this, one_mul]
  have ht0 : (0 : ℝ) < 1 + t * t := by nlinarith [mul_self_nonneg t]
  have hr1 : r1 = (√(a - t * b))⁻¹ := rfl
  have hr2 : r2 = (√(c + t * b))⁻¹ := rfl
  generalize √(a - t * b) = p at *
  generalize √(c + t * b) = q at *
  have hb : b = (q ^ 2 - p ^ 2) * t / (1 + t * t) := by
    rw [eq_div_iff ht0.ne']; linear_combination t * hpp - t * hqq - ht
  have hdet : a * c - b * b = (p * q) ^ 2 := by
    linear_combination b * ht - (c + t * b) * hpp - p ^ 2 * hqq
  have hs : √(a * c - b * b) = p * q := by rw [hdet]; exact Real.sqrt_sq (mul_pos hp hq).le
  have hk : scale a b c = (p * q * (p + q))⁻¹ := by
    unfold scale
    rw [hs, hdet]
    have : (p * q) ^ 2 * (a + c + 2 * (p * q)) = (p * q * (p + q)) ^ 2 := by
      linear_combination (-(p * q) ^ 2) * hpp - (p * q) ^ 2 * hqq
    rw [this, Real.sqrt_sq (mul_pos (mul_pos hp hq) (add_pos hp hq)).le]
  have hva : a = p ^ 2 + t * b := by linear_combination -hpp
  have hvc : c = q ^ 2 - t * b := by linear_combination -hqq
  have hpq : p + q ≠ 0 := (add_pos hp hq).ne'
  have e1 : co * r1 * co + si * r2 * si = (co * co) * (r1 + t ^ 2 * r2) := by simp only [si]; ring
  have e2 : si * r2 * co - co * r1 * si = (co * co) * (t * (r2 - r1)) := by simp only [si]; ring
  have e3 : si * r1 * si + co * r2 * co = (co * co) * (t ^ 2 * r1 + r2) := by simp only [si]; ring
  rw [e1, e2, e3, hco, hr1, hr2]
  refine ⟨?_, ?_, ?_⟩
  · unfold wrr; rw [hs, hk, hvc, hb]; field_simp; ring
  · unfold wri; rw [hk, hb]; field_simp; ring
  · unfold wii; rw [hs, hk, hva, hb]; field_simp; ring

end Whiten

end

end
-- ==== Proof.Target.lean ====
/- The function both programs compute, over the reals: each sample is centred over the features, turned by the inverse
   root of its feature's covariance matrix, and scaled by the complex factor of the feature. -/
module

public import proofs.«01_k».proof.Proof.Math

@[expose] public section

noncomputable section

namespace Whiten

/-- The samples of one feature. -/
def feat (X : Fin 64 → Fin 128 → Fin 2048 → ℝ) (f : Fin 2048) : Fin 64 → Fin 128 → ℝ := fun b l => X b l f

/-- The number added on the diagonal of the covariance. -/
def eps : ℝ := 13743895 / 137438953472

/-- It is positive. -/
theorem eps_pos : 0 < eps := by unfold eps; norm_num

/-- A diagonal entry of a feature's covariance matrix. -/
def var (X : Fin 64 → Fin 128 → Fin 2048 → ℝ) (f : Fin 2048) : ℝ := cov (feat X f) (feat X f) + eps

/-- The entry off the diagonal. -/
def cross (X Y : Fin 64 → Fin 128 → Fin 2048 → ℝ) (f : Fin 2048) : ℝ := cov (feat X f) (feat Y f)

/-- Diagonal entries are positive. -/
theorem var_pos (X : Fin 64 → Fin 128 → Fin 2048 → ℝ) (f : Fin 2048) : 0 < var X f :=
  add_pos_of_nonneg_of_pos (cov_self_nonneg _) eps_pos

/-- The covariance matrix has a positive determinant. -/
theorem cov_det_pos (X Y : Fin 64 → Fin 128 → Fin 2048 → ℝ) (f : Fin 2048) :
    0 < var X f * var Y f - cross X Y f * cross X Y f := det_pos _ _ eps_pos

/-- A sample less the mean of its row over the features. -/
def centred (X : Fin 64 → Fin 128 → Fin 2048 → ℝ) (b : Fin 64) (l : Fin 128) (f : Fin 2048) : ℝ :=
  X b l f - (∑ k, X b l k) / 2048

/-- The real part after the inverse root. -/
def white0 (X Y : Fin 64 → Fin 128 → Fin 2048 → ℝ) (b : Fin 64) (l : Fin 128) (f : Fin 2048) : ℝ :=
  wrr (var X f) (cross X Y f) (var Y f) * centred X b l f + wri (var X f) (cross X Y f) (var Y f) * centred Y b l f

/-- The imaginary part after the inverse root. -/
def white1 (X Y : Fin 64 → Fin 128 → Fin 2048 → ℝ) (b : Fin 64) (l : Fin 128) (f : Fin 2048) : ℝ :=
  wri (var X f) (cross X Y f) (var Y f) * centred X b l f + wii (var X f) (cross X Y f) (var Y f) * centred Y b l f

/-- The real part of the result before the shift. -/
def out0 (X Y : Fin 64 → Fin 128 → Fin 2048 → ℝ) (gr gi : Fin 2048 → ℝ) (b : Fin 64) (l : Fin 128) (f : Fin 2048) : ℝ :=
  gr f * white0 X Y b l f - gi f * white1 X Y b l f

/-- The imaginary part of the result before the shift. -/
def out1 (X Y : Fin 64 → Fin 128 → Fin 2048 → ℝ) (gr gi : Fin 2048 → ℝ) (b : Fin 64) (l : Fin 128) (f : Fin 2048) : ℝ :=
  gr f * white1 X Y b l f + gi f * white0 X Y b l f

end Whiten

end

end
-- ==== Proof.Payload.lean ====
/- What the kernel's stores hold, over the reals: the sums a block adds, the coefficients that the complete sums give, and
   the output that the coefficients give of a block. -/
module

public import proofs.«01_k».proof.Proof.Conds
public import proofs.«01_k».proof.Proof.Consts
public import proofs.«01_k».proof.Proof.Sums
public import proofs.«01_k».proof.Proof.Target

@[expose] public section

set_option maxRecDepth 8192

noncomputable section

namespace Cert.KernelIdeal.Hand

open Idealize.ShloMosaic Idealize.ShloMosaic.Hand
open Cert.KernelIdeal Cert.KernelIdeal.Gen
open Whiten Whiten.Consts

/-! ### The sums -/

/-- The six sums of two real arrays of `n` rows at one feature, in the kernel's order. -/
def sums {n : ℕ} (x y : Fin 64 → Fin n → ℝ) (r : Fin 8) : ℝ :=
  match r with
  | 0 => ∑ b, ∑ l, x b l * x b l
  | 1 => ∑ b, ∑ l, y b l * y b l
  | 2 => ∑ b, ∑ l, x b l * y b l
  | 3 => ∑ l, (∑ b, x b l) * (∑ b, x b l)
  | 4 => ∑ l, (∑ b, y b l) * (∑ b, y b l)
  | 5 => ∑ l, (∑ b, x b l) * (∑ b, y b l)
  | _ => 0

/-- A property of every row of eight is a property of each. -/
theorem forall_rows {P : Fin 8 → Prop} (h0 : P 0) (h1 : P 1) (h2 : P 2) (h3 : P 3) (h4 : P 4) (h5 : P 5) (h6 : P 6)
    (h7 : P 7) : ∀ r, P r
  | 0 => h0 | 1 => h1 | 2 => h2 | 3 => h3 | 4 => h4 | 5 => h5 | 6 => h6 | 7 => h7

/-- A block's rows of sums are the sums of its real entries. -/
theorem pay1_real (x y : Vec Ideal S64x8x2048 .f32) (X Y : Fin 64 → Fin 8 → Fin 2048 → ℝ)
    (hx : ∀ b l f, x (ix3 b l f) = ((X b l f : ℝ) : EReal)) (hy : ∀ b l f, y (ix3 b l f) = ((Y b l f : ℝ) : EReal))
    (r : Fin 8) (f : Fin 2048) :
    k0_pay1 x y (ix2 r f) = ((sums (fun b l => X b l f) (fun b l => Y b l f) r : ℝ) : EReal) := by
  revert r
  refine forall_rows ?_ ?_ ?_ ?_ ?_ ?_ ?_ ?_
  all_goals pointwise [k0_pay1]
  all_goals try rw [reduceAdd01]
  all_goals try simp only [mulf, Ideal.mulf_def, ix1_0, hx, hy, ← EReal.coe_mul, ← coe_sum]
  all_goals rfl

/-- Row `l` of block `k` in the whole array. -/
def pos (k : ℕ) (l : Fin 8) : Fin 128 := ⟨(8 * k + l.val) % 128, Nat.mod_lt _ (by decide)⟩

/-- A sum over the sixteen blocks of eight rows is the sum over all the rows. -/
theorem sum_blocks (h : Fin 128 → ℝ) : ∑ k ∈ Finset.range 16, ∑ l : Fin 8, h (pos k l) = ∑ l, h l := by
  rw [← (finProdFinEquiv (m := 16) (n := 8)).sum_comp h, Fintype.sum_prod_type, Finset.sum_range]
  refine Finset.sum_congr rfl fun k _ => Finset.sum_congr rfl fun l _ => congrArg h (Fin.ext ?_)
  show (8 * k.val + l.val) % 128 = l.val + 8 * k.val
  have := k.isLt; have := l.isLt; omega

/-- The sums of the sixteen blocks add up to the sums of the whole array. -/
theorem sums_blocks (x y : Fin 64 → Fin 128 → ℝ) (r : Fin 8) :
    ∑ k ∈ Finset.range 16, sums (fun b l => x b (pos k l)) (fun b l => y b (pos k l)) r = sums x y r := by
  revert r
  refine forall_rows ?_ ?_ ?_ ?_ ?_ ?_ ?_ ?_
  all_goals simp only [sums]
  · rw [Finset.sum_comm]
    exact Finset.sum_congr rfl fun b _ => sum_blocks fun l => x b l * x b l
  · rw [Finset.sum_comm]
    exact Finset.sum_congr rfl fun b _ => sum_blocks fun l => y b l * y b l
  · rw [Finset.sum_comm]
    exact Finset.sum_congr rfl fun b _ => sum_blocks fun l => x b l * y b l
  · exact sum_blocks fun l => (∑ b, x b l) * (∑ b, x b l)
  · exact sum_blocks fun l => (∑ b, y b l) * (∑ b, y b l)
  · exact sum_blocks fun l => (∑ b, x b l) * (∑ b, y b l)
  · exact Finset.sum_const_zero
  · exact Finset.sum_const_zero

/-! ### The coefficients -/

/-- The named constant is the reciprocal of one less than the number of samples. -/
theorem inv_nm1 : Named.named (F := Ideal) κ "inv_nm1" (φ := .f32) 0x39000400#32 = ((8191⁻¹ : ℝ) : EReal) :=
  IdealRules.named_const.ideal_named_scalar _ _ _ _ rfl

section Coef

variable (acc : Vec Ideal S8x2048 .f32) (X Y : Fin 64 → Fin 128 → Fin 2048 → ℝ)

/-- The rows of `acc` hold the sums of the whole arrays. -/
def Complete : Prop := ∀ (r : Fin 8) (f : Fin 2048), acc (ix2 r f) = ((sums (feat X f) (feat Y f) r : ℝ) : EReal)

variable (hacc : Complete acc X Y)
include hacc

/-- The variance of the real samples. -/
theorem pay17_real (f : Fin 2048) : k0_pay17 acc (ix1 f) = ((var X f : ℝ) : EReal) := by
  pointwise [k0_pay17]
  rw [hacc 0, hacc 3, inv_nm1, ofBits_inv_64, ofBits_eps]
  simp only [← EReal.coe_mul, ← EReal.coe_sub, ← EReal.coe_add]
  unfold var cov
  rw [coprod_eq, div_eq_mul_inv]
  rfl

/-- The variance of the imaginary samples. -/
theorem pay18_real (f : Fin 2048) : k0_pay18 acc (ix1 f) = ((var Y f : ℝ) : EReal) := by
  pointwise [k0_pay18]
  rw [hacc 1, hacc 4, inv_nm1, ofBits_inv_64, ofBits_eps]
  simp only [← EReal.coe_mul, ← EReal.coe_sub, ← EReal.coe_add]
  unfold var cov
  rw [coprod_eq, div_eq_mul_inv]
  rfl

/-- The covariance off the diagonal. -/
theorem pay19_real (f : Fin 2048) : k0_pay19 acc (ix1 f) = ((cross X Y f : ℝ) : EReal) := by
  pointwise [k0_pay19]
  rw [hacc 2, hacc 5, inv_nm1, ofBits_inv_64]
  simp only [← EReal.coe_mul, ← EReal.coe_sub]
  unfold cross cov
  rw [coprod_eq, div_eq_mul_inv]
  rfl

/-- The determinant. -/
theorem pay20_real (f : Fin 2048) :
    k0_pay20 acc (ix1 f) = ((var X f * var Y f - cross X Y f * cross X Y f : ℝ) : EReal) := by
  pointwise [k0_pay20]
  rw [pay17_real acc X Y hacc, pay18_real acc X Y hacc, pay19_real acc X Y hacc]
  simp only [← EReal.coe_mul, ← EReal.coe_sub]

/-- Its root. -/
theorem pay21_real (f : Fin 2048) :
    k0_pay21 acc (ix1 f) = ((√(var X f * var Y f - cross X Y f * cross X Y f) : ℝ) : EReal) := by
  pointwise [k0_pay21]
  rw [pay20_real acc X Y hacc, coe_sqrt _ (cov_det_pos X Y f).le]

/-- The factor common to the entries of the inverse root. -/
theorem pay22_real (f : Fin 2048) :
    k0_pay22 acc (ix1 f) = ((scale (var X f) (cross X Y f) (var Y f) : ℝ) : EReal) := by
  pointwise [k0_pay22]
  rw [pay20_real acc X Y hacc, pay21_real acc X Y hacc, pay17_real acc X Y hacc, pay18_real acc X Y hacc, ofBits_2]
  simp only [← EReal.coe_mul, ← EReal.coe_add]
  rw [coe_rsqrt _ (mul_pos (cov_det_pos X Y f) (add_pos_of_pos_of_nonneg (add_pos (var_pos X f) (var_pos Y f))
    (mul_nonneg (by norm_num) (Real.sqrt_nonneg _))))]
  rfl

/-- The first diagonal entry. -/
theorem pay23_real (f : Fin 2048) :
    k0_pay23 acc (ix1 f) = ((wrr (var X f) (cross X Y f) (var Y f) : ℝ) : EReal) := by
  pointwise [k0_pay23]
  rw [pay21_real acc X Y hacc, pay22_real acc X Y hacc, pay18_real acc X Y hacc]
  simp only [← EReal.coe_mul, ← EReal.coe_add]
  rfl

/-- The second diagonal entry. -/
theorem pay24_real (f : Fin 2048) :
    k0_pay24 acc (ix1 f) = ((wii (var X f) (cross X Y f) (var Y f) : ℝ) : EReal) := by
  pointwise [k0_pay24]
  rw [pay21_real acc X Y hacc, pay22_real acc X Y hacc, pay17_real acc X Y hacc]
  simp only [← EReal.coe_mul, ← EReal.coe_add]
  rfl

/-- The entry off the diagonal. -/
theorem pay6_real (f : Fin 2048) :
    k0_pay6 (k0_pay22 acc) (k0_pay25 acc) (ix1 f) = ((wri (var X f) (cross X Y f) (var Y f) : ℝ) : EReal) := by
  pointwise [k0_pay6, k0_pay25]
  rw [pay19_real acc X Y hacc, pay22_real acc X Y hacc, ← EReal.coe_zero]
  simp only [← EReal.coe_mul, ← EReal.coe_sub]
  rfl

variable (g0 g1 : Vec Ideal S1x2048 .f32) (gr gi : Fin 2048 → ℝ)
  (h0 : ∀ f, g0 (ix2 0 f) = ((gr f : ℝ) : EReal)) (h1 : ∀ f, g1 (ix2 0 f) = ((gi f : ℝ) : EReal))
include h0 h1

/-- The four coefficient rows: the complex factor times the inverse root. -/
theorem coef_real (f : Fin 2048) :
    row (coef acc g0 g1) 0 (ix2 0 f) = ((gr f * wrr (var X f) (cross X Y f) (var Y f) - gi f * wri (var X f) (cross X Y f) (var Y f) : ℝ) : EReal)
    ∧ row (coef acc g0 g1) 1 (ix2 0 f) = ((gr f * wri (var X f) (cross X Y f) (var Y f) - gi f * wii (var X f) (cross X Y f) (var Y f) : ℝ) : EReal)
    ∧ row (coef acc g0 g1) 2 (ix2 0 f) = ((gr f * wri (var X f) (cross X Y f) (var Y f) + gi f * wrr (var X f) (cross X Y f) (var Y f) : ℝ) : EReal)
    ∧ row (coef acc g0 g1) 3 (ix2 0 f) = ((gr f * wii (var X f) (cross X Y f) (var Y f) + gi f * wri (var X f) (cross X Y f) (var Y f) : ℝ) : EReal) := by
  have h7 : k0_pay7 g0 (ix1 f) = ((gr f : ℝ) : EReal) := by pointwise [k0_pay7]; exact h0 f
  have h8 : k0_pay8 g1 (ix1 f) = ((gi f : ℝ) : EReal) := by pointwise [k0_pay8]; exact h1 f
  refine ⟨?_, ?_, ?_, ?_⟩
  · show k0_pay9 _ _ _ g0 g1 (ix2 0 f) = _
    pointwise [k0_pay9]
    rw [h7, h8, pay23_real acc X Y hacc, pay6_real acc X Y hacc]
    simp only [← EReal.coe_mul, ← EReal.coe_sub]
  · show k0_pay10 _ _ _ g0 g1 (ix2 0 f) = _
    pointwise [k0_pay10]
    rw [h7, h8, pay24_real acc X Y hacc, pay6_real acc X Y hacc]
    simp only [← EReal.coe_mul, ← EReal.coe_sub]
  · show k0_pay11 _ _ _ g0 g1 (ix2 0 f) = _
    pointwise [k0_pay11]
    rw [h7, h8, pay23_real acc X Y hacc, pay6_real acc X Y hacc]
    simp only [← EReal.coe_mul, ← EReal.coe_add]
  · show k0_pay12 _ _ _ g0 g1 (ix2 0 f) = _
    pointwise [k0_pay12]
    rw [h7, h8, pay24_real acc X Y hacc, pay6_real acc X Y hacc]
    simp only [← EReal.coe_mul, ← EReal.coe_add]

end Coef

/-! ### The output of a block -/

section Out

variable (X Y : Fin 64 → Fin 128 → Fin 2048 → ℝ) (gr gi : Fin 2048 → ℝ) (co : Vec Ideal S4x2048 .f32) (p : Fin 8 → Fin 128)
  (hco : ∀ f : Fin 2048,
    row co 0 (ix2 0 f) = ((gr f * wrr (var X f) (cross X Y f) (var Y f) - gi f * wri (var X f) (cross X Y f) (var Y f) : ℝ) : EReal)
    ∧ row co 1 (ix2 0 f) = ((gr f * wri (var X f) (cross X Y f) (var Y f) - gi f * wii (var X f) (cross X Y f) (var Y f) : ℝ) : EReal)
    ∧ row co 2 (ix2 0 f) = ((gr f * wri (var X f) (cross X Y f) (var Y f) + gi f * wrr (var X f) (cross X Y f) (var Y f) : ℝ) : EReal)
    ∧ row co 3 (ix2 0 f) = ((gr f * wii (var X f) (cross X Y f) (var Y f) + gi f * wri (var X f) (cross X Y f) (var Y f) : ℝ) : EReal))
  (b0 b1 : Vec Ideal S1x2048 .f32)

/-- What a block's output holds, for a block whose rows are the rows `p` of the whole array. -/
def outBlock : Vec Ideal S64x8x2x2048 .f32 := fun y =>
  if (y 2).val = 0 then ((out0 X Y gr gi (y 0) (p (y 1)) (y 3) : ℝ) : EReal) + b0 (ix2 0 (y 3))
  else ((out1 X Y gr gi (y 0) (p (y 1)) (y 3) : ℝ) : EReal) + b1 (ix2 0 (y 3))

include hco

/-- The output from a fetched block. -/
theorem outNew_real (x0 x1 : Vec Ideal S64x8x2048 .f32)
    (hx : ∀ b l f, x0 (ix3 b l f) = ((X b (p l) f : ℝ) : EReal)) (hy : ∀ b l f, x1 (ix3 b l f) = ((Y b (p l) f : ℝ) : EReal)) :
    outNew x0 x1 co b0 b1 = outBlock X Y gr gi p b0 b1 := by
  have z0 : ∀ b l f, k0_pay33 x0 (ix3 b l f) = ((centred X b (p l) f : ℝ) : EReal) := fun b l f => by
    pointwise [k0_pay33]
    rw [ofBits_inv_2048]
    simp only [hx, ← EReal.coe_mul, ← EReal.coe_sub, ← coe_sum]
    unfold centred
    congr 1
    ring
  have z1 : ∀ b l f, k0_pay34 x1 (ix3 b l f) = ((centred Y b (p l) f : ℝ) : EReal) := fun b l f => by
    pointwise [k0_pay34]
    rw [ofBits_inv_2048]
    simp only [hy, ← EReal.coe_mul, ← EReal.coe_sub, ← coe_sum]
    unfold centred
    congr 1
    ring
  funext y
  idx_vars y
  unfold outNew planes outBlock
  by_cases h : y2.val = 0
  · rw [if_pos (show ((ix4 y0 y1 y2 y3) 2).val = 0 from h), if_pos (show ((ix4 y0 y1 y2 y3) 2).val = 0 from h)]
    show k0_pay15 _ (ix4 y0 y1 0 y3) = _
    pointwise [k0_pay15, k0_pay35]
    rw [z0, z1, (hco y3).1, (hco y3).2.1]
    simp only [← EReal.coe_mul, ← EReal.coe_add]
    congr 2
    unfold out0 white0 white1
    ring
  · rw [if_neg (show ¬((ix4 y0 y1 y2 y3) 2).val = 0 from h), if_neg (show ¬((ix4 y0 y1 y2 y3) 2).val = 0 from h)]
    show k0_pay16 _ _ _ _ _ (ix4 y0 y1 0 y3) = _
    pointwise [k0_pay16, k0_pay31, k0_pay32]
    rw [z0, z1, (hco y3).2.2.1, (hco y3).2.2.2]
    simp only [← EReal.coe_mul, ← EReal.coe_add]
    congr 2
    unfold out1 white0 white1
    ring

/-- The output from a kept block. -/
theorem outKept_real (x0 x1 : Vec Ideal S64x8x2048 .f32)
    (hx : ∀ b l f, x0 (ix3 b l f) = ((X b (p l) f : ℝ) : EReal)) (hy : ∀ b l f, x1 (ix3 b l f) = ((Y b (p l) f : ℝ) : EReal)) :
    outKept (k0_pay4 x0) (k0_pay5 x1) co b0 b1 = outBlock X Y gr gi p b0 b1 := by
  have z0 : ∀ b l f, k0_pay28 (k0_pay4 x0) (ix3 b l f) = ((centred X b (p l) f : ℝ) : EReal) := fun b l f => by
    pointwise [k0_pay28, k0_pay4]
    rw [ofBits_inv_2048]
    simp only [hx, ← EReal.coe_mul, ← EReal.coe_sub, ← coe_sum]
    unfold centred
    congr 1
    ring
  have z1 : ∀ b l f, k0_pay29 (k0_pay5 x1) (ix3 b l f) = ((centred Y b (p l) f : ℝ) : EReal) := fun b l f => by
    pointwise [k0_pay29, k0_pay5]
    rw [ofBits_inv_2048]
    simp only [hy, ← EReal.coe_mul, ← EReal.coe_sub, ← coe_sum]
    unfold centred
    congr 1
    ring
  funext y
  idx_vars y
  unfold outKept planes outBlock
  by_cases h : y2.val = 0
  · rw [if_pos (show ((ix4 y0 y1 y2 y3) 2).val = 0 from h), if_pos (show ((ix4 y0 y1 y2 y3) 2).val = 0 from h)]
    show k0_pay13 _ (ix4 y0 y1 0 y3) = _
    pointwise [k0_pay13, k0_pay30]
    rw [z0, z1, (hco y3).1, (hco y3).2.1]
    simp only [← EReal.coe_mul, ← EReal.coe_add]
    congr 2
    unfold out0 white0 white1
    ring
  · rw [if_neg (show ¬((ix4 y0 y1 y2 y3) 2).val = 0 from h), if_neg (show ¬((ix4 y0 y1 y2 y3) 2).val = 0 from h)]
    show k0_pay14 _ _ _ _ _ (ix4 y0 y1 0 y3) = _
    pointwise [k0_pay14, k0_pay26, k0_pay27]
    rw [z0, z1, (hco y3).2.2.1, (hco y3).2.2.2]
    simp only [← EReal.coe_mul, ← EReal.coe_add]
    congr 2
    unfold out1 white0 white1
    ring

end Out

end Cert.KernelIdeal.Hand

end

end
-- ==== Proof.Blocks.lean ====
/- The blocks the pipeline hands the body, read at an index of the argument arrays, and the sums after a number of blocks. -/
module

public import proofs.«01_k».proof.Proof.Body
public import proofs.«01_k».proof.Proof.Payload
public import Idealize.ShloMosaic.Lib.Pipeline.ValueKit

@[expose] public section

set_option maxRecDepth 8192

noncomputable section

namespace Cert.KernelIdeal.Hand

open Idealize.ShloMosaic Idealize.ShloMosaic.Hand Idealize.ShloMosaic.TcCoe
open Cert.KernelIdeal Cert.KernelIdeal.Gen
open Whiten Whiten.Consts

/-- The block of rows that a grid point works on. -/
def blockAt (n : ℕ) : ℕ := if n < 16 then n else if n = 16 then 15 else n - 16

/-- The samples' windows take that block of rows. -/
theorem index0 : ∀ t : Fin cfg0.N, win0_0.index t (0 : Fin 3) = 0 ∧ win0_0.index t (1 : Fin 3) = blockAt t.val
    ∧ win0_0.index t (2 : Fin 3) = 0 := (by decide +kernel : ∀ t : Fin grid0.N, _)

/-- So does the second window. -/
theorem index1 : ∀ t : Fin cfg0.N, win0_1.index t (0 : Fin 3) = 0 ∧ win0_1.index t (1 : Fin 3) = blockAt t.val
    ∧ win0_1.index t (2 : Fin 3) = 0 := (by decide +kernel : ∀ t : Fin grid0.N, _)

/-- The factors' and shifts' windows take the whole array. -/
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)

/-- The output's window takes block zero until the second pass, and then the block of the point. -/
theorem index6 : ∀ t : Fin cfg0.N, win0_6.index t (0 : Fin 4) = 0 ∧ win0_6.index t (1 : Fin 4) = t.val - 16
    ∧ win0_6.index t (2 : Fin 4) = 0 ∧ win0_6.index t (3 : Fin 4) = 0 := (by decide +kernel : ∀ t : Fin grid0.N, _)

/-- The block of a point is one of the sixteen. -/
theorem blockAt_lt (t : Fin cfg0.N) : blockAt t.val < 16 := by
  have := lt32 t
  unfold blockAt
  split
  · assumption
  · split <;> omega

/-- The position of an index of a samples' block in the array. -/
theorem emb0 (t : Fin cfg0.N) (b : Fin 64) (l : Fin 8) (f : Fin 2048) :
    ((cfg0.win 0).blk t).view.emb (ix3 b l f) = (ix3 b (pos (blockAt t.val) l) f : S64x128x2048.Idx) := by
  obtain ⟨e0, e1, e2⟩ := index0 t
  have hb := blockAt_lt t
  have hl := l.isLt
  funext a; apply Fin.ext
  match a with
  | ⟨0, _⟩ => show win0_0.index t (0 : Fin 3) * 64 + 1 * b.val = b.val; omega
  | ⟨1, _⟩ => show win0_0.index t (1 : Fin 3) * 8 + 1 * l.val = (8 * blockAt t.val + l.val) % 128; omega
  | ⟨2, _⟩ => show win0_0.index t (2 : Fin 3) * 2048 + 1 * f.val = f.val; omega

/-- The same of the second window. -/
theorem emb1 (t : Fin cfg0.N) (b : Fin 64) (l : Fin 8) (f : Fin 2048) :
    ((cfg0.win 1).blk t).view.emb (ix3 b l f) = (ix3 b (pos (blockAt t.val) l) f : S64x128x2048.Idx) := by
  obtain ⟨e0, e1, e2⟩ := index1 t
  have hb := blockAt_lt t
  have hl := l.isLt
  funext a; apply Fin.ext
  match a with
  | ⟨0, _⟩ => show win0_1.index t (0 : Fin 3) * 64 + 1 * b.val = b.val; omega
  | ⟨1, _⟩ => show win0_1.index t (1 : Fin 3) * 8 + 1 * l.val = (8 * blockAt t.val + l.val) % 128; omega
  | ⟨2, _⟩ => show win0_1.index t (2 : Fin 3) * 2048 + 1 * f.val = f.val; omega

/-- The factors' and shifts' blocks are their arrays. -/
theorem emb2 (t : Fin cfg0.N) (j : S1x2048.Idx) : ((cfg0.win 2).blk t).view.emb j = j := by
  obtain ⟨e0, e1⟩ := index2 t
  funext a; apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega
theorem emb3 (t : Fin cfg0.N) (j : S1x2048.Idx) : ((cfg0.win 3).blk t).view.emb j = j := by
  obtain ⟨e0, e1⟩ := index3 t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
theorem emb4 (t : Fin cfg0.N) (j : S1x2048.Idx) : ((cfg0.win 4).blk t).view.emb j = j := by
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb5 (t : Fin cfg0.N) (j : S1x2048.Idx) : ((cfg0.win 5).blk t).view.emb j = j := by
  obtain ⟨e0, e1⟩ := index5 t
  funext a; apply Fin.ext
  match a with
  | ⟨0, _⟩ => show win0_5.index t (0 : Fin 2) * 1 + 1 * (j 0).val = (j 0).val; omega
  | ⟨1, _⟩ => show win0_5.index t (1 : Fin 2) * 2048 + 1 * (j 1).val = (j 1).val; omega

/-- The position of an index of the output's block in the array. -/
theorem emb6 (t : Fin cfg0.N) (b : Fin 64) (l : Fin 8) (p : Fin 2) (f : Fin 2048) :
    ((cfg0.win 6).blk t).view.emb (ix4 b l p f) = (ix4 b (pos (t.val - 16) l) p f : S64x128x2x2048.Idx) := by
  obtain ⟨e0, e1, e2, e3⟩ := index6 t
  have hb := lt32 t
  have hl := l.isLt
  funext a; apply Fin.ext
  match a with
  | ⟨0, _⟩ => show win0_6.index t (0 : Fin 4) * 64 + 1 * b.val = b.val; omega
  | ⟨1, _⟩ => show win0_6.index t (1 : Fin 4) * 8 + 1 * l.val = (8 * (t.val - 16) + l.val) % 128; omega
  | ⟨2, _⟩ => show win0_6.index t (2 : Fin 4) * 2 + 1 * p.val = p.val; omega
  | ⟨3, _⟩ => show win0_6.index t (3 : Fin 4) * 2048 + 1 * f.val = f.val; omega

variable (m : (ℓ : Loc nD τ sig) → Buf (Elt Ideal) ℓ) (c : Dev nD)

/-- The samples' blocks at an index. -/
theorem xr_ix (t : Fin cfg0.N) (b : Fin 64) (l : Fin 8) (f : Fin 2048) :
    xr m c t (ix3 b l f) = (m ((c.tc : Thread nD τ).loc main_arg0) : Vec Ideal S64x128x2048 .f32) (ix3 b (pos (blockAt t.val) l) f) := by
  show V m c main_arg0 (((cfg0.win 0).blk t).view.emb (ix3 b l f)) = _
  rw [V_main_arg0, emb0]
theorem xi_ix (t : Fin cfg0.N) (b : Fin 64) (l : Fin 8) (f : Fin 2048) :
    xi m c t (ix3 b l f) = (m ((c.tc : Thread nD τ).loc main_arg1) : Vec Ideal S64x128x2048 .f32) (ix3 b (pos (blockAt t.val) l) f) := by
  show V m c main_arg1 (((cfg0.win 1).blk t).view.emb (ix3 b l f)) = _
  rw [V_main_arg1, emb1]

/-- What the host lines before the region leave in the reshaped arguments. -/
theorem V_main_v0 : V m c main_v0 = shapeCast S1x2048 (m ((c.tc : Thread nD τ).loc main_arg2)) shapeCasts_S2048_S1x2048 := rfl
theorem V_main_v1 : V m c main_v1 = shapeCast S1x2048 (m ((c.tc : Thread nD τ).loc main_arg3)) shapeCasts_S2048_S1x2048 := rfl
theorem V_main_v2 : V m c main_v2 = shapeCast S1x2048 (m ((c.tc : Thread nD τ).loc main_arg4)) shapeCasts_S2048_S1x2048 := rfl
theorem V_main_v3 : V m c main_v3 = shapeCast S1x2048 (m ((c.tc : Thread nD τ).loc main_arg5)) shapeCasts_S2048_S1x2048 := rfl

/-- A row reshaped to one row of two axes, at an index. -/
theorem lift_ix (g : Vec Ideal S2048 .f32) (f : Fin 2048) :
    shapeCast S1x2048 g shapeCasts_S2048_S1x2048 (ix2 0 f) = g (ix1 f) := by pointwise

/-- The factors' and shifts' blocks at an index. -/
theorem iblk2_ix (t : Fin cfg0.N) (f : Fin 2048) :
    (iblk m c 2 t : Vec Ideal S1x2048 .f32) (ix2 0 f) = (m ((c.tc : Thread nD τ).loc main_arg2) : Vec Ideal S2048 .f32) (ix1 f) := by
  show V m c main_v0 (((cfg0.win 2).blk t).view.emb (ix2 0 f)) = _
  rw [emb2, V_main_v0]
  exact lift_ix _ f
theorem iblk3_ix (t : Fin cfg0.N) (f : Fin 2048) :
    (iblk m c 3 t : Vec Ideal S1x2048 .f32) (ix2 0 f) = (m ((c.tc : Thread nD τ).loc main_arg3) : Vec Ideal S2048 .f32) (ix1 f) := by
  show V m c main_v1 (((cfg0.win 3).blk t).view.emb (ix2 0 f)) = _
  rw [emb3, V_main_v1]
  exact lift_ix _ f
theorem iblk4_ix (t : Fin cfg0.N) (f : Fin 2048) :
    (iblk m c 4 t : Vec Ideal S1x2048 .f32) (ix2 0 f) = (m ((c.tc : Thread nD τ).loc main_arg4) : Vec Ideal S2048 .f32) (ix1 f) := by
  show V m c main_v2 (((cfg0.win 4).blk t).view.emb (ix2 0 f)) = _
  rw [emb4, V_main_v2]
  exact lift_ix _ f
theorem iblk5_ix (t : Fin cfg0.N) (f : Fin 2048) :
    (iblk m c 5 t : Vec Ideal S1x2048 .f32) (ix2 0 f) = (m ((c.tc : Thread nD τ).loc main_arg5) : Vec Ideal S2048 .f32) (ix1 f) := by
  show V m c main_v3 (((cfg0.win 5).blk t).view.emb (ix2 0 f)) = _
  rw [emb5, V_main_v3]
  exact lift_ix _ f

section Real

variable (X Y : Fin 64 → Fin 128 → Fin 2048 → ℝ) (gr gi : Fin 2048 → ℝ)
  (hX : ∀ b l f, (m ((c.tc : Thread nD τ).loc main_arg0) : Vec Ideal S64x128x2048 .f32) (ix3 b l f) = ((X b l f : ℝ) : EReal))
  (hY : ∀ b l f, (m ((c.tc : Thread nD τ).loc main_arg1) : Vec Ideal S64x128x2048 .f32) (ix3 b l f) = ((Y b l f : ℝ) : EReal))
  (hgr : ∀ f, (m ((c.tc : Thread nD τ).loc main_arg2) : Vec Ideal S2048 .f32) (ix1 f) = ((gr f : ℝ) : EReal))
  (hgi : ∀ f, (m ((c.tc : Thread nD τ).loc main_arg3) : Vec Ideal S2048 .f32) (ix1 f) = ((gi f : ℝ) : EReal))

include hX hY

/-- The sums after the first `n + 1` blocks. -/
theorem acc_real (n : ℕ) (hn : n < 16) (r : Fin 8) (f : Fin 2048) :
    acc m c n (ix2 r f) = ((∑ k ∈ Finset.range (n + 1),
      sums (fun b l => feat X f b (pos k l)) (fun b l => feat Y f b (pos k l)) r : ℝ) : EReal) := by
  have hb : ∀ k < 16, blockAt (pt k).val = k := fun k hk => by
    have : (pt k).val = k := by show k % 32 = k; omega
    unfold blockAt; rw [this, if_pos hk]
  have hp : ∀ k < 16, k0_pay1 (xr m c (pt k)) (xi m c (pt k)) (ix2 r f)
      = ((sums (fun b l => feat X f b (pos k l)) (fun b l => feat Y f b (pos k l)) r : ℝ) : EReal) := fun k hk =>
    pay1_real _ _ (fun b l f => X b (pos k l) f) (fun b l f => Y b (pos k l) f)
      (fun b l f => by rw [xr_ix, hb k hk, hX]) (fun b l f => by rw [xi_ix, hb k hk, hY]) r f
  induction n with
  | zero =>
    show k0_pay2 (xr m c (pt 0)) (xi m c (pt 0)) (ix2 r f) = _
    pointwise [k0_pay2]
    rw [hp 0 (by decide), Finset.sum_range_one]
  | succ n ih =>
    show k0_pay3 (xr m c (pt (n + 1))) (xi m c (pt (n + 1))) (acc m c n) (ix2 r f) = _
    pointwise [k0_pay3]
    rw [ih (by omega), hp (n + 1) hn, Finset.sum_range_succ _ (n + 1), EReal.coe_add]

/-- After the sixteen blocks the sums are those of the whole arrays. -/
theorem acc_complete : Complete (acc m c 15) X Y := fun r f => by
  rw [acc_real m c X Y hX hY 15 (by decide) r f, sums_blocks (feat X f) (feat Y f) r]

include hgr hgi

/-- What the region's result array ends holding. -/
theorem final6 : (dats m 0 c).arrAt 6 cfg0.N = (fun i : S64x128x2x2048.Idx =>
    if (i 2).val = 0 then ((out0 X Y gr gi (i 0) (i 1) (i 3) : ℝ) : EReal)
        + (m ((c.tc : Thread nD τ).loc main_arg4) : Vec Ideal S2048 .f32) (ix1 (i 3))
    else ((out1 X Y gr gi (i 0) (i 1) (i 3) : ℝ) : EReal)
        + (m ((c.tc : Thread nD τ).loc main_arg5) : Vec Ideal S2048 .f32) (ix1 (i 3))) := by
  refine (dats m 0 c).arrAt_eq_of_covers 6 _ (by decide +kernel) fun t hf y => ?_
  have ht : 16 ≤ t.val := (flush_iff t).mp hf
  have hN := lt32 t
  have hb : blockOut m c t = outBlock X Y gr gi (pos (t.val - 16)) (iblk m c 4 t) (iblk m c 5 t) := by
    have hco := fun f => coef_real (acc m c 15) X Y (acc_complete m c X Y hX hY) (iblk m c 2 (pt 16)) (iblk m c 3 (pt 16)) gr gi
      (fun f => by rw [iblk2_ix, hgr]) (fun f => by rw [iblk3_ix, hgi]) f
    unfold blockOut
    by_cases h : t.val = 16
    · rw [if_pos h]
      refine outKept_real X Y gr gi (coefs m c) _ hco _ _ (xr m c (pt 0)) (xi m c (pt 0)) (fun b l f => ?_) fun b l f => ?_
      · rw [xr_ix, hX, h]; rfl
      · rw [xi_ix, hY, h]; rfl
    · rw [if_neg h]
      have e : blockAt t.val = t.val - 16 := by unfold blockAt; rw [if_neg (by omega), if_neg h]
      refine outNew_real X Y gr gi (coefs m c) _ hco _ _ (xr m c t) (xi m c t) (fun b l f => ?_) fun b l f => ?_
      · rw [xr_ix, hX, e]
      · rw [xi_ix, hY, e]
  obtain ⟨b, l, p, f, rfl⟩ : ∃ (b : Fin 64) (l : Fin 8) (p : Fin 2) (f : Fin 2048), y = (ix4 b l p f : S64x8x2x2048.Idx) :=
    ⟨y 0, y 1, y 2, y 3, funext fun a => by match a with | ⟨0, _⟩ => rfl | ⟨1, _⟩ => rfl | ⟨2, _⟩ => rfl | ⟨3, _⟩ => rfl⟩
  rw [emb6]
  show (dats m 0 c).after 6 t (ix4 b l p f : S64x8x2x2048.Idx) = _
  rw [after6, hb]
  unfold outBlock
  show (if p.val = 0 then _ + (iblk m c 4 t : Vec Ideal S1x2048 .f32) (ix2 0 f) else _ + (iblk m c 5 t : Vec Ideal S1x2048 .f32) (ix2 0 f)) = _
  rw [iblk4_ix, iblk5_ix]
  rfl

include hX hY hgr hgi in
/-- What the result ends holding: the region's array with its last two axes exchanged. -/
theorem tail_result : Pipeline.afterTail₀ cfgs (dats m) 0 (V0 m) [hostOps1] c main_v5 = (fun i : S64x128x2048x2.Idx =>
    if (i 3).val = 0 then ((out0 X Y gr gi (i 0) (i 1) (i 2) : ℝ) : EReal)
        + (m ((c.tc : Thread nD τ).loc main_arg4) : Vec Ideal S2048 .f32) (ix1 (i 2))
    else ((out1 X Y gr gi (i 0) (i 1) (i 2) : ℝ) : EReal)
        + (m ((c.tc : Thread nD τ).loc main_arg5) : Vec Ideal S2048 .f32) (ix1 (i 2))) := by
  unfold Pipeline.afterTail₀
  show transpose S64x128x2048x2 [0, 1, 3, 2] (Pipeline.withArrays spec0 c (V0 m c) (fun w => (dats m 0 c).arrAt w cfg0.N) (Proc.devRef .tc main_v4))
    transposes_S64x128x2x2048_S64x128x2048x2_0_1_3_2 = _
  have hinj : Function.Injective (Pipeline.arrRef spec0) := fun w w' =>
    (by decide : ∀ w w', Pipeline.arrRef spec0 w = Pipeline.arrRef spec0 w' → w = w') w w'
  have h6 : Pipeline.withArrays spec0 c (V0 m c) (fun w => (dats m 0 c).arrAt w cfg0.N) (Proc.devRef .tc main_v4) = _ :=
    (Pipeline.withArrays_arr spec0 hinj c (V0 m c) (fun w => (dats m 0 c).arrAt w cfg0.N) 6).trans
      (final6 m c X Y gr gi hX hY hgr hgi)
  rw [h6]
  funext i
  idx_vars i
  pointwise

end Real

end Cert.KernelIdeal.Hand

end

end
-- ==== Proof.Ref.lean ====
/- What the reference computes, read at one index, when the samples and the factors are finite. -/
module

public import proofs.«01_k».proof.Proof.Gen.ReferenceIdeal.Run
public import proofs.«01_k».proof.Proof.Consts
public import proofs.«01_k».proof.Proof.Sums
public import proofs.«01_k».proof.Proof.Target

@[expose] public section

set_option maxRecDepth 8192

noncomputable section

namespace Cert.ReferenceIdeal.Hand

open Idealize.ShloMosaic Idealize.ShloMosaic.StableHlo Idealize.ShloMosaic.Hand
open Cert.ReferenceIdeal Cert.ReferenceIdeal.Gen Cert.ReferenceIdeal.Value
open Whiten Whiten.Consts

/-- An array of three axes whose entries are all real. -/
def real3 (X : Fin 64 → Fin 128 → Fin 2048 → ℝ) : FVec Ideal S64x128x2048 .f32 := fun i => ((X (i 0) (i 1) (i 2) : ℝ) : EReal)

/-- It reads at an index. -/
@[simp] theorem real3_ix (X : Fin 64 → Fin 128 → Fin 2048 → ℝ) (b : Fin 64) (l : Fin 128) (f : Fin 2048) :
    real3 X (ix3 b l f) = ((X b l f : ℝ) : EReal) := rfl

variable (V : Valuation τ sig (Elt Ideal)) (X Y : Fin 64 → Fin 128 → Fin 2048 → ℝ)

/-- The real samples less their batch mean. -/
theorem v13 (hX : V (Proc.devRef .tc main_arg0) = real3 X) (b : Fin 64) (l : Fin 128) (f : Fin 2048) :
    res_main_v13 V (ix3 b l f) = ((X b l f - mean (feat X f) l : ℝ) : EReal) := by
  unfold res_main_v13
  rw [hX]
  pointwise
  rw [ofBits_64]
  simp only [real3_ix, ← coe_sum, zero_add]
  rw [coe_div _ _ (by norm_num), ← EReal.coe_sub]
  rfl

/-- The imaginary samples less their batch mean. -/
theorem v19 (hY : V (Proc.devRef .tc main_arg1) = real3 Y) (b : Fin 64) (l : Fin 128) (f : Fin 2048) :
    res_main_v19 V (ix3 b l f) = ((Y b l f - mean (feat Y f) l : ℝ) : EReal) := by
  unfold res_main_v19
  rw [hY]
  pointwise
  rw [ofBits_64]
  simp only [real3_ix, ← coe_sum, zero_add]
  rw [coe_div _ _ (by norm_num), ← EReal.coe_sub]
  rfl

/-- The covariance off the diagonal. -/
theorem v27 (hX : V (Proc.devRef .tc main_arg0) = real3 X) (hY : V (Proc.devRef .tc main_arg1) = real3 Y) (f : Fin 2048) :
    res_main_v27 V (ix1 f) = ((cross X Y f : ℝ) : EReal) := by
  unfold res_main_v27
  pointwise
  rw [hostReduceAdd01, ofBits_8191]
  simp only [mulf, Ideal.mulf_def, ix1_0, v13 V X hX, v19 V Y hY, ← EReal.coe_mul, ← coe_sum, zero_add]
  rw [coe_div _ _ (by norm_num)]
  rfl

/-- The variance of the real samples. -/
theorem v33 (hX : V (Proc.devRef .tc main_arg0) = real3 X) (f : Fin 2048) :
    res_main_v33 V (ix1 f) = ((var X f : ℝ) : EReal) := by
  unfold res_main_v33
  pointwise
  rw [hostReduceAdd01, ofBits_8191, ofBits_eps]
  simp only [mulf, Ideal.mulf_def, ix1_0, v13 V X hX, ← EReal.coe_mul, ← coe_sum, zero_add]
  rw [coe_div _ _ (by norm_num), ← EReal.coe_add]
  rfl

/-- The variance of the imaginary samples. -/
theorem v35 (hY : V (Proc.devRef .tc main_arg1) = real3 Y) (f : Fin 2048) :
    res_main_v35 V (ix1 f) = ((var Y f : ℝ) : EReal) := by
  unfold res_main_v35
  pointwise
  rw [hostReduceAdd01, ofBits_8191, ofBits_eps]
  simp only [mulf, Ideal.mulf_def, ix1_0, v19 V Y hY, ← EReal.coe_mul, ← coe_sum, zero_add]
  rw [coe_div _ _ (by norm_num), ← EReal.coe_add]
  rfl

/-- The quotient that the tangent is made of. -/
theorem v42 (hX : V (Proc.devRef .tc main_arg0) = real3 X) (hY : V (Proc.devRef .tc main_arg1) = real3 Y) (f : Fin 2048) :
    res_main_v42 V (ix1 f) = ((tau (var X f) (cross X Y f) (var Y f) : ℝ) : EReal) := by
  unfold res_main_v42
  pointwise
  rw [v27 V X Y hX hY, v33 V X hX, v35 V Y hY]
  generalize var X f = a
  generalize var Y f = c
  generalize cross X Y f = b
  have h2 : (2 * if b = 0 then 1 else b : ℝ) ≠ 0 := by
    by_cases hb : b = 0
    · rw [if_pos hb]; norm_num
    · rw [if_neg hb]; exact mul_ne_zero (by norm_num) hb
  have hone : id (constant (F := Ideal) S_ FTy.f32 0x3F800000#32) ix0 = ((1 : ℝ) : EReal) := ofBits_one
  rw [hone, ofBits_2]
  unfold tau
  by_cases hb : b = 0
  · rw [if_pos (by exact_mod_cast hb)]
    rw [if_pos hb] at h2 ⊢
    rw [← EReal.coe_sub, ← EReal.coe_mul, coe_div _ _ h2]
  · rw [if_neg (by exact_mod_cast hb)]
    rw [if_neg hb] at h2 ⊢
    rw [← EReal.coe_sub, ← EReal.coe_mul, coe_div _ _ h2]

/-- The root that the tangent is made of. -/
theorem v46 (hX : V (Proc.devRef .tc main_arg0) = real3 X) (hY : V (Proc.devRef .tc main_arg1) = real3 Y) (f : Fin 2048) :
    res_main_v46 V (ix1 f) = ((√(1 + tau (var X f) (cross X Y f) (var Y f) * tau (var X f) (cross X Y f) (var Y f)) : ℝ) : EReal) := by
  unfold res_main_v46
  pointwise
  rw [v42 V X Y hX hY, ← EReal.coe_one, ← EReal.coe_mul, ← EReal.coe_add,
    coe_sqrt _ (add_nonneg zero_le_one (mul_self_nonneg _))]

/-- The tangent. -/
theorem v58 (hX : V (Proc.devRef .tc main_arg0) = real3 X) (hY : V (Proc.devRef .tc main_arg1) = real3 Y) (f : Fin 2048) :
    res_main_v58 V (ix1 f) = ((tang (var X f) (cross X Y f) (var Y f) : ℝ) : EReal) := by
  unfold res_main_v58
  pointwise
  rw [v27 V X Y hX hY, v42 V X Y hX hY, v46 V X Y hX hY]
  unfold tang
  by_cases hb : cross X Y f = 0
  · rw [if_pos (by exact_mod_cast hb), if_pos hb]
    exact Ideal.ofBits_zero_f32.trans EReal.coe_zero.symm
  · rw [if_neg (by exact_mod_cast hb), if_neg hb]
    generalize tau (var X f) (cross X Y f) (var Y f) = u
    have h1 := lt_root u
    have h2 := neg_lt_root u
    by_cases hu : 0 ≤ u
    · rw [if_pos (by exact_mod_cast hu), if_pos hu, ← EReal.coe_add, ← EReal.coe_one, coe_div _ _ (by linarith)]
    · rw [if_neg (by exact_mod_cast hu), if_neg hu, ofBits_neg_one, ← EReal.coe_sub, coe_div _ _ (by linarith)]

/-- The cosine. -/
theorem v64 (hX : V (Proc.devRef .tc main_arg0) = real3 X) (hY : V (Proc.devRef .tc main_arg1) = real3 Y) (f : Fin 2048) :
    res_main_v64 V (ix1 f) = ((1 / √(1 + tang (var X f) (cross X Y f) (var Y f) * tang (var X f) (cross X Y f) (var Y f)) : ℝ) : EReal) := by
  unfold res_main_v64
  pointwise
  rw [v58 V X Y hX hY, ← EReal.coe_one, ← EReal.coe_mul, ← EReal.coe_add,
    coe_sqrt _ (add_nonneg zero_le_one (mul_self_nonneg _)),
    coe_div _ _ (Real.sqrt_pos.2 (add_pos_of_pos_of_nonneg one_pos (mul_self_nonneg _))).ne']

/-- The rotation's equation at a feature, with its diagonal values positive. -/
theorem diag (f : Fin 2048) :
    0 < var X f - tang (var X f) (cross X Y f) (var Y f) * cross X Y f
      ∧ 0 < var Y f + tang (var X f) (cross X Y f) (var Y f) * cross X Y f :=
  diag_pos (var_pos X f) (var_pos Y f) (cov_det_pos X Y f) (tang_root _ _ _)

/-- The reciprocal root of the first diagonal value. -/
theorem v70 (hX : V (Proc.devRef .tc main_arg0) = real3 X) (hY : V (Proc.devRef .tc main_arg1) = real3 Y) (f : Fin 2048) :
    res_main_v70 V (ix1 f) = (((√(var X f - tang (var X f) (cross X Y f) (var Y f) * cross X Y f))⁻¹ : ℝ) : EReal) := by
  unfold res_main_v70
  pointwise
  rw [v33 V X hX, v27 V X Y hX hY, v58 V X Y hX hY, ← EReal.coe_mul, ← EReal.coe_sub, coe_rsqrt _ (diag X Y f).1]

/-- The reciprocal root of the second diagonal value. -/
theorem v71 (hX : V (Proc.devRef .tc main_arg0) = real3 X) (hY : V (Proc.devRef .tc main_arg1) = real3 Y) (f : Fin 2048) :
    res_main_v71 V (ix1 f) = (((√(var Y f + tang (var X f) (cross X Y f) (var Y f) * cross X Y f))⁻¹ : ℝ) : EReal) := by
  unfold res_main_v71
  pointwise
  rw [v35 V Y hY, v27 V X Y hX hY, v58 V X Y hX hY, ← EReal.coe_mul, ← EReal.coe_add, coe_rsqrt _ (diag X Y f).2]

/-- The entry off the diagonal of the inverse root. -/
theorem v81 (hX : V (Proc.devRef .tc main_arg0) = real3 X) (hY : V (Proc.devRef .tc main_arg1) = real3 Y) (f : Fin 2048) :
    res_main_v81 V (ix1 f) = ((wri (var X f) (cross X Y f) (var Y f) : ℝ) : EReal) := by
  rw [← (rotation (var_pos X f) (var_pos Y f) (cov_det_pos X Y f) (tang_root _ _ _)).2.1]
  unfold res_main_v81 res_main_v65
  pointwise
  simp only [v64 V X Y hX hY, v58 V X Y hX hY, v70 V X Y hX hY, v71 V X Y hX hY, ← EReal.coe_mul, ← EReal.coe_sub]

/-- The real samples less their row mean. -/
theorem v88 (hX : V (Proc.devRef .tc main_arg0) = real3 X) (b : Fin 64) (l : Fin 128) (f : Fin 2048) :
    res_main_v88 V (ix3 b l f) = ((centred X b l f : ℝ) : EReal) := by
  unfold res_main_v88
  rw [hX]
  pointwise
  rw [ofBits_2048]
  simp only [real3_ix, ← coe_sum, zero_add]
  rw [coe_div _ _ (by norm_num), ← EReal.coe_sub]
  rfl

/-- The imaginary samples less their row mean. -/
theorem v90 (hY : V (Proc.devRef .tc main_arg1) = real3 Y) (b : Fin 64) (l : Fin 128) (f : Fin 2048) :
    res_main_v90 V (ix3 b l f) = ((centred Y b l f : ℝ) : EReal) := by
  unfold res_main_v90
  rw [hY]
  pointwise
  rw [ofBits_2048]
  simp only [real3_ix, ← coe_sum, zero_add]
  rw [coe_div _ _ (by norm_num), ← EReal.coe_sub]
  rfl

/-- The real part after the inverse root. -/
theorem v97 (hX : V (Proc.devRef .tc main_arg0) = real3 X) (hY : V (Proc.devRef .tc main_arg1) = real3 Y)
    (b : Fin 64) (l : Fin 128) (f : Fin 2048) : res_main_v97 V (ix3 b l f) = ((white0 X Y b l f : ℝ) : EReal) := by
  unfold white0
  rw [← (rotation (var_pos X f) (var_pos Y f) (cov_det_pos X Y f) (tang_root _ _ _)).1]
  unfold res_main_v97 res_main_v65
  pointwise
  simp only [v64 V X Y hX hY, v58 V X Y hX hY, v70 V X Y hX hY, v71 V X Y hX hY, v81 V X Y hX hY, v88 V X hX, v90 V Y hY,
    ← EReal.coe_mul, ← EReal.coe_add]

/-- The imaginary part after the inverse root. -/
theorem v104 (hX : V (Proc.devRef .tc main_arg0) = real3 X) (hY : V (Proc.devRef .tc main_arg1) = real3 Y)
    (b : Fin 64) (l : Fin 128) (f : Fin 2048) : res_main_v104 V (ix3 b l f) = ((white1 X Y b l f : ℝ) : EReal) := by
  unfold white1
  rw [← (rotation (var_pos X f) (var_pos Y f) (cov_det_pos X Y f) (tang_root _ _ _)).2.2]
  unfold res_main_v104 res_main_v65
  pointwise
  simp only [v64 V X Y hX hY, v58 V X Y hX hY, v70 V X Y hX hY, v71 V X Y hX hY, v81 V X Y hX hY, v88 V X hX, v90 V Y hY,
    ← EReal.coe_mul, ← EReal.coe_add]

/-- An array of one axis whose entries are all real. -/
def real1 (g : Fin 2048 → ℝ) : FVec Ideal S2048 .f32 := fun i => ((g (i 0) : ℝ) : EReal)

/-- It reads at an index. -/
@[simp] theorem real1_ix (g : Fin 2048 → ℝ) (f : Fin 2048) : real1 g (ix1 f) = ((g f : ℝ) : EReal) := rfl

/-- The reference's result array: the real and the imaginary part, each with its shift. -/
def result (X Y : Fin 64 → Fin 128 → Fin 2048 → ℝ) (gr gi : Fin 2048 → ℝ) (br bi : FVec Ideal S2048 .f32) :
    FVec Ideal S64x128x2048x2 .f32 := fun i =>
  if (i 3).val = 0 then ((out0 X Y gr gi (i 0) (i 1) (i 2) : ℝ) : EReal) + br (ix1 (i 2))
  else ((out1 X Y gr gi (i 0) (i 1) (i 2) : ℝ) : EReal) + bi (ix1 (i 2))

/-- The reference's run ends with that array, when the samples and the factors are real. -/
theorem run_result (m : (ℓ : Loc nD τ sig) → Buf (Elt Ideal) ℓ) (ρ : Dev nD → PrngReg)
    (gr gi : Fin 2048 → ℝ) (c : Dev nD)
    (hX : launchContents m c (Proc.devRef .tc main_arg0) = real3 X)
    (hY : launchContents m c (Proc.devRef .tc main_arg1) = real3 Y)
    (hgr : launchContents m c (Proc.devRef .tc main_arg2) = real1 gr)
    (hgi : launchContents m c (Proc.devRef .tc main_arg3) = real1 gi) :
    val3 (launchContents m c) (Proc.devRef .tc main_v127)
      = result X Y gr gi (launchContents m c (Proc.devRef .tc main_arg4)) (launchContents m c (Proc.devRef .tc main_arg5)) := by
  rw [val3_main_v127, hgr, hgi]
  generalize launchContents m c = V at *
  funext i
  idx_vars i
  pointwise
  rw [v97 V X Y hX hY, v104 V X Y hX hY, real1_ix, real1_ix]
  simp only [← EReal.coe_mul, ← EReal.coe_sub, ← EReal.coe_add]
  unfold result
  by_cases h : i3.val = 0
  · rw [dif_pos (by omega), if_pos (by exact h)]
    rfl
  · rw [dif_neg (by omega), if_neg (by exact h)]
    rfl

end Cert.ReferenceIdeal.Hand

end

end
-- ==== Proof.Finite.lean ====
/- What the precondition says: every sample and every factor is a real number. -/
module

public import proofs.«01_k».proof.Proof.Gen.Pre_finite
public import Idealize.ShloMosaic.Lib.Pointwise
public import Idealize.ShloMosaic.Lib.ReduceAll
public import proofs.«01_k».proof.Proof.Consts

@[expose] public section

set_option maxRecDepth 8192

noncomputable section

namespace Cert.Pre_finite.Hand

open Idealize.ShloMosaic
open Cert.Pre_finite Cert.Pre_finite.Gen
open Whiten.Consts

/-- An extended real whose absolute value is below infinity is a real. -/
theorem real_of_abs (x : EReal) (h : Ideal.cmp .olt (max x (-x)) ⊤ = 1#1) : ∃ r : ℝ, x = ((r : ℝ) : EReal) := by
  have hlt : max x (-x) < ⊤ := by
    by_contra hn
    simp [Ideal.cmp, hn] at h
  induction x with
  | bot => simp at hlt
  | top => simp at hlt
  | coe r => exact ⟨r, rfl⟩

/-- There is one index without coordinates. -/
instance : Subsingleton S_.Idx := ⟨fun a b => funext fun k => k.elim0⟩

/-- The precondition gives real samples and factors. -/
theorem real_args (x y : FVec Ideal S64x128x2048 .f32) (g h p q : FVec Ideal S2048 .f32)
    (e : fn (F := Ideal) x y g h p q = fun _ => 1#1) :
    (∀ i, ∃ r : ℝ, x i = ((r : ℝ) : EReal)) ∧ (∀ i, ∃ r : ℝ, y i = ((r : ℝ) : EReal))
      ∧ (∀ i, ∃ r : ℝ, g i = ((r : ℝ) : EReal)) ∧ (∀ i, ∃ r : ℝ, h i = ((r : ℝ) : EReal)) := by
  have e0 := congrFun e (fun k => k.elim0)
  unfold fn fn_part1 at e0
  simp only [andi] at e0
  obtain ⟨e1, e4⟩ := IntOp.andi_eq_one.1 e0
  obtain ⟨e1, e3⟩ := IntOp.andi_eq_one.1 e1
  obtain ⟨e1, e2⟩ := IntOp.andi_eq_one.1 e1
  refine ⟨fun i => real_of_abs _ ?_, fun i => real_of_abs _ ?_, fun i => real_of_abs _ ?_, fun i => real_of_abs _ ?_⟩
  · have := Host.reduce_andi_all _ _ _ _ _ e1 i
    rw [← ofBits_inf]; exact this
  · have := Host.reduce_andi_all _ _ _ _ _ e2 i
    rw [← ofBits_inf]; exact this
  · have := Host.reduce_andi_all _ _ _ _ _ e3 i
    rw [← ofBits_inf]; exact this
  · have := Host.reduce_andi_all _ _ _ _ _ e4 i
    rw [← ofBits_inf]; exact this

end Cert.Pre_finite.Hand

end

end
-- ==== Proof.Equal.lean ====
/- The equation of the kernel's and the reference's results, from memories that agree on the arguments. -/
module

public import proofs.«01_k».proof.Defs
public import proofs.«01_k».proof.Proof.Blocks
public import proofs.«01_k».proof.Proof.Ref
public import proofs.«01_k».proof.Proof.Finite
public import proofs.«01_k».proof.Proof.Gen.KernelIdeal
public import proofs.«01_k».proof.Proof.Gen.ReferenceIdeal
public import proofs.«01_k».proof.Proof.Gen.Pre_finite
public import Idealize.ShloMosaic.Lib.Claim

@[expose] public section

set_option maxRecDepth 8192

noncomputable section

namespace Cert.Equal

open Idealize.ShloMosaic Idealize.ShloMosaic.TcCoe Idealize.SL.Sem

/-- From real samples and factors the kernel's result array is the reference's. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hpre : Cert.Pre_KernelIdeal_finite m)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5)) :
    ReferenceIdeal.Value.val3 (StableHlo.launchContents m' c) (Proc.devRef .tc ReferenceIdeal.main_v127)
      = Pipeline.afterTail₀ KernelIdeal.cfgs (KernelIdeal.Hand.dats m) 0 (KernelIdeal.Gen.V0 m) [KernelIdeal.Gen.hostOps1] c KernelIdeal.main_v5 := by
  obtain ⟨hx, hy, hg, hh⟩ := Pre_finite.Hand.real_args _ _ _ _ _ _ (hpre c)
  choose X hX using fun b l f => hx (ix3 b l f)
  choose Y hY using fun b l f => hy (ix3 b l f)
  choose gr hgr using fun f => hg (ix1 f)
  choose gi hgi using fun f => hh (ix1 f)
  have eta3 : ∀ i : (⟨3, ![64, 128, 2048]⟩ : Shape).Idx, ix3 (i 0) (i 1) (i 2) = i := fun i => funext fun a => by
    match a with | ⟨0, _⟩ => rfl | ⟨1, _⟩ => rfl | ⟨2, _⟩ => rfl
  have eta1 : ∀ i : (⟨1, ![2048]⟩ : Shape).Idx, ix1 (i 0) = i := fun i => funext fun a => by
    match a with | ⟨0, _⟩ => rfl
  rw [KernelIdeal.Hand.tail_result m c X Y gr gi hX hY hgr hgi,
    ReferenceIdeal.Hand.run_result X Y m' (fun _ => default) gr gi c
      (h0.trans (funext fun i => by rw [← eta3 i]; exact hX _ _ _)) (h1.trans (funext fun i => by rw [← eta3 i]; exact hY _ _ _))
      (h2.trans (funext fun i => by rw [← eta1 i]; exact hgr _)) (h3.trans (funext fun i => by rw [← eta1 i]; exact hgi _))]
  unfold ReferenceIdeal.Hand.result
  rw [← h4, ← h5]

/-- The equality claim. -/
theorem algebraic : Cert.algebraic_KernelIdeal_ReferenceIdeal_pre_finite := by
  intro m g m' g' hpre hagree
  refine ⟨fun c => Pipeline.afterTail₀ KernelIdeal.cfgs (KernelIdeal.Hand.dats m) 0 (KernelIdeal.Gen.V0 m) [KernelIdeal.Gen.hostOps1] c KernelIdeal.main_v5, ?_, ?_⟩
  · refine (θ_run KernelIdeal.defs _ _).mono (fun r h c => ⟨?_, h.1.1 c⟩)
      (θ_run_and (KernelIdeal.Hand.frame m g) (KernelIdeal.Hand.launched m g))
    exact (h.2.1 c).2 KernelIdeal.main_v5 (Pipeline.mem_restRefs_of KernelIdeal.main_v5 (by decide) (by decide))
  · refine (θ_run ReferenceIdeal.defs _ _).mono (fun r h c => ⟨(h c).1.trans ?_, (h c).2⟩) (ReferenceIdeal.Value.run m' g')
    obtain ⟨h0, h1, h2, h3, h4, h5⟩ := hagree c
    exact (ReferenceIdeal.Value.val3_main_v127 _).symm.trans (results_eq m m' c hpre h0 h1 h2 h3 h4 h5)

end Cert.Equal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Bits
public import proofs.«01_k».proof.Proof.Body
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments as they were, and it has no semaphores. -/
theorem reference_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- All the claims: the frames, the named constant, and the equality. -/
theorem claim : Cert.Claim := ⟨Cert.Kernel.Gen.facts, Cert.KernelIdeal.Gen.facts, Cert.ReferenceIdeal.Gen.facts, Cert.Pre_finite.Gen.facts,
  fun m g _ => Cert.Kernel.Hand.frame m g,
  fun m g _ => Cert.KernelIdeal.Hand.frame m g,
  fun m g _ => Cert.KernelIdeal.Hand.frame m g,
  reference_frame,
  fun m g _ => reference_frame m g trivial,
  IdealRules.named_const.statement Cert.KernelIdeal.κ "inv_nm1" .f32 0x39000400#32 ((8191⁻¹ : ℝ) : EReal) rfl,
  Cert.Equal.algebraic⟩

end Cert.Proof

end
